-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v434) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8400x80 : Shape := ⟨3, ![8, 8400, 80]⟩
abbrev S8x8400x4 : Shape := ⟨3, ![8, 8400, 4]⟩
abbrev S8x8400 : Shape := ⟨2, ![8, 8400]⟩
abbrev S_ : Shape := ⟨0, ![]⟩
abbrev S67200x4 : Shape := ⟨2, ![67200, 4]⟩
abbrev S67200 : Shape := ⟨1, ![67200]⟩
abbrev S384 : Shape := ⟨1, ![384]⟩
abbrev S67200x1 : Shape := ⟨2, ![67200, 1]⟩
abbrev S540672 : Shape := ⟨1, ![540672]⟩
abbrev S67584 : Shape := ⟨1, ![67584]⟩
abbrev S608256 : Shape := ⟨1, ![608256]⟩
abbrev S32x16 : Shape := ⟨2, ![32, 16]⟩
abbrev S19008 : Shape := ⟨1, ![19008]⟩
abbrev S16 : Shape := ⟨1, ![16]⟩
abbrev S2112 : Shape := ⟨1, ![2112]⟩
abbrev S1x16 : Shape := ⟨2, ![1, 16]⟩
abbrev S1x1 : Shape := ⟨2, ![1, 1]⟩
abbrev S2x8400x80 : Shape := ⟨3, ![2, 8400, 80]⟩
abbrev S1x80 : Shape := ⟨2, ![1, 80]⟩
abbrev S80 : Shape := ⟨1, ![80]⟩
abbrev S1 : Shape := ⟨1, ![1]⟩

abbrev nBuf : Table → Nat
  | .hbm => 41
  | .local .tc .vmem => 5
  | .local .tc .smem => 1
  | .local .scVector .vmem => 2
  | _ => 0

abbrev bufTy : (tb : Table) → Fin (nBuf tb) → BufTy
  | .hbm, ⟨0, _⟩ => ⟨S8x8400x80, .f32⟩
  | .hbm, ⟨1, _⟩ => ⟨S8x8400x4, .f32⟩
  | .hbm, ⟨2, _⟩ => ⟨S8x8400x80, .f32⟩
  | .hbm, ⟨3, _⟩ => ⟨S8x8400x4, .f32⟩
  | .hbm, ⟨4, _⟩ => ⟨S8x8400, .i1⟩
  | .hbm, ⟨5, _⟩ => ⟨S8x8400, .f32⟩
  | .hbm, ⟨6, _⟩ => ⟨S_, .f32⟩
  | .hbm, ⟨7, _⟩ => ⟨S67200x4, .f32⟩
  | .hbm, ⟨8, _⟩ => ⟨S67200x4, .f32⟩
  | .hbm, ⟨9, _⟩ => ⟨S67200, .i1⟩
  | .hbm, ⟨10, _⟩ => ⟨S67200, .f32⟩
  | .hbm, ⟨11, _⟩ => ⟨S67200, .f32⟩
  | .hbm, ⟨12, _⟩ => ⟨S67200, .f32⟩
  | .hbm, ⟨13, _⟩ => ⟨S_, .f32⟩
  | .hbm, ⟨14, _⟩ => ⟨S384, .f32⟩
  | .hbm, ⟨15, _⟩ => ⟨S67200x1, .f32⟩
  | .hbm, ⟨16, _⟩ => ⟨S67200, .f32⟩
  | .hbm, ⟨17, _⟩ => ⟨S67200x1, .f32⟩
  | .hbm, ⟨18, _⟩ => ⟨S67200, .f32⟩
  | .hbm, ⟨19, _⟩ => ⟨S67200x1, .f32⟩
  | .hbm, ⟨20, _⟩ => ⟨S67200, .f32⟩
  | .hbm, ⟨21, _⟩ => ⟨S67200x1, .f32⟩
  | .hbm, ⟨22, _⟩ => ⟨S67200, .f32⟩
  | .hbm, ⟨23, _⟩ => ⟨S67200x1, .f32⟩
  | .hbm, ⟨24, _⟩ => ⟨S67200, .f32⟩
  | .hbm, ⟨25, _⟩ => ⟨S67200x1, .f32⟩
  | .hbm, ⟨26, _⟩ => ⟨S67200, .f32⟩
  | .hbm, ⟨27, _⟩ => ⟨S67200x1, .f32⟩
  | .hbm, ⟨28, _⟩ => ⟨S67200, .f32⟩
  | .hbm, ⟨29, _⟩ => ⟨S67200x1, .f32⟩
  | .hbm, ⟨30, _⟩ => ⟨S67200, .f32⟩
  | .hbm, ⟨31, _⟩ => ⟨S540672, .f32⟩
  | .hbm, ⟨32, _⟩ => ⟨S67584, .f32⟩
  | .hbm, ⟨33, _⟩ => ⟨S608256, .f32⟩
  | .hbm, ⟨34, _⟩ => ⟨S32x16, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local .tc .vmem, ⟨0, _⟩ => ⟨S2x8400x80, .f32⟩
  | .local .tc .vmem, ⟨1, _⟩ => ⟨S2x8400x80, .f32⟩
  | .local .tc .vmem, ⟨2, _⟩ => ⟨S2x8400x80, .f32⟩
  | .local .tc .vmem, ⟨3, _⟩ => ⟨S2x8400x80, .f32⟩
  | .local .tc .vmem, ⟨4, _⟩ => ⟨S1x80, .f32⟩
  | .local .tc .smem, ⟨0, _⟩ => ⟨S1x1, .f32⟩
  | .local .scVector .vmem, ⟨0, _⟩ => ⟨S19008, .f32⟩
  | .local .scVector .vmem, ⟨1, _⟩ => ⟨S16, .f32⟩
  | _, _ => ⟨S8x8400x80, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v25_scv : Ref sig .scVector := ⟨.hbm, 33, rfl⟩
abbrev main_v26_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_scratch0 : Ref sig .tc := ⟨.vmem, 4, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2112_i32 : BitVec 32 := 2112#32
  let v2 : BitVec 32 := Scalar.muli v1 c2112_i32
  let v3 : BitVec 32 := Scalar.addi c0_i32 v2
  ![v3.toNat]
@[reducible] def k0_t1_loop : Scf.Loop 32 :=
  let c0_i32_1 : BitVec 32 := 0#32
  let c132_i32 : BitVec 32 := 132#32
  let v16 : BitVec 32 := Scalar.addi c0_i32_1 c132_i32
  let c1_i32 : BitVec 32 := 1#32
  ⟨c0_i32_1, v16, c1_i32⟩
def k0_off2 (k0_t1 : Fin k0_t1_loop.trips) (c0_i32_3 : BitVec 32) : Fin 1 → Nat :=
  let c0_i32_1 : BitVec 32 := 0#32
  let c1_i32 : BitVec 32 := 1#32
  let arg6 : BitVec 32 := Scf.iv c0_i32_1 c1_i32 k0_t1
  let c16_i32 : BitVec 32 := 16#32
  let v18 : BitVec 32 := Scalar.muli arg6 c16_i32
  let v19 : BitVec 32 := Scalar.addi c0_i32_3 v18
  let v20 : Index := Scalar.indexCast v19
  ![v20.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r9 : BitVec 32 := 0#32
  ![v1.toNat, 0]
abbrev grid1 : Pipeline.Grid := ⟨1, ![4], ![false]⟩

def k1_cond3 (i : grid1.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_12 : BitVec 32 := 0#32
  let v23 : BitVec 1 := Scalar.cmpi .ne v22 c0_i32_12
  v23

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x8400x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x8400x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S8x8400x80 : Shape := ⟨3, ![8, 8400, 80]⟩
abbrev S8x8400x4 : Shape := ⟨3, ![8, 8400, 4]⟩
abbrev S8x8400 : Shape := ⟨2, ![8, 8400]⟩
abbrev S_ : Shape := ⟨0, ![]⟩
abbrev S67200x4 : Shape := ⟨2, ![67200, 4]⟩
abbrev S67200x1 : Shape := ⟨2, ![67200, 1]⟩
abbrev S67200 : Shape := ⟨1, ![67200]⟩

abbrev nBuf : Space → Nat
  | .hbm => 509
  | .vmem => 0
  | .smem => 0
  | _ => 0

abbrev hbmTy0_0 (i : Nat) : BufTy := match i % 128 with
  | 0 => ⟨S8x8400x80, .f32⟩
  | 1 => ⟨S8x8400x4, .f32⟩
  | 2 => ⟨S8x8400x80, .f32⟩
  | 3 => ⟨S8x8400x4, .f32⟩
  | 4 => ⟨S8x8400, .i1⟩
  | 5 => ⟨S8x8400, .f32⟩
  | 6 => ⟨S_, .f32⟩
  | 7 => ⟨S_, .f32⟩
  | 8 => ⟨S8x8400x80, .f32⟩
  | 9 => ⟨S8x8400x80, .f32⟩
  | 10 => ⟨S8x8400x80, .f32⟩
  | 11 => ⟨S8x8400x80, .f32⟩
  | 12 => ⟨S8x8400x80, .f32⟩
  | 13 => ⟨S8x8400x80, .f32⟩
  | 14 => ⟨S8x8400x80, .f32⟩
  | 15 => ⟨S8x8400x80, .f32⟩
  | 16 => ⟨S8x8400x80, .f32⟩
  | 17 => ⟨S_, .f32⟩
  | 18 => ⟨S_, .f32⟩
  | 19 => ⟨S_, .f32⟩
  | 20 => ⟨S8x8400, .f32⟩
  | 21 => ⟨S67200x4, .f32⟩
  | 22 => ⟨S67200x4, .f32⟩
  | 23 => ⟨S67200x1, .f32⟩
  | 24 => ⟨S67200, .f32⟩
  | 25 => ⟨S67200x1, .f32⟩
  | 26 => ⟨S67200, .f32⟩
  | 27 => ⟨S67200, .f32⟩
  | 28 => ⟨S67200x1, .f32⟩
  | 29 => ⟨S67200, .f32⟩
  | 30 => ⟨S67200x1, .f32⟩
  | 31 => ⟨S67200, .f32⟩
  | 32 => ⟨S67200, .f32⟩
  | 33 => ⟨S67200x1, .f32⟩
  | 34 => ⟨S67200, .f32⟩
  | 35 => ⟨S67200x1, .f32⟩
  | 36 => ⟨S67200, .f32⟩
  | 37 => ⟨S67200, .f32⟩
  | 38 => ⟨S67200x1, .f32⟩
  | 39 => ⟨S67200, .f32⟩
  | 40 => ⟨S67200x1, .f32⟩
  | 41 => ⟨S67200, .f32⟩
  | 42 => ⟨S67200, .f32⟩
  | 43 => ⟨S67200, .f32⟩
  | 44 => ⟨S_, .i32⟩
  | 45 => ⟨S_, .f32⟩
  | 46 => ⟨S67200, .f32⟩
  | 47 => ⟨S67200, .f32⟩
  | 48 => ⟨S67200, .f32⟩
  | 49 => ⟨S_, .i32⟩
  | 50 => ⟨S_, .f32⟩
  | 51 => ⟨S67200, .f32⟩
  | 52 => ⟨S67200, .f32⟩
  | 53 => ⟨S67200, .f32⟩
  | 54 => ⟨S67200x1, .f32⟩
  | 55 => ⟨S67200, .f32⟩
  | 56 => ⟨S67200x1, .f32⟩
  | 57 => ⟨S67200, .f32⟩
  | 58 => ⟨S67200, .f32⟩
  | 59 => ⟨S67200x1, .f32⟩
  | 60 => ⟨S67200, .f32⟩
  | 61 => ⟨S67200x1, .f32⟩
  | 62 => ⟨S67200, .f32⟩
  | 63 => ⟨S67200, .f32⟩
  | 64 => ⟨S67200, .f32⟩
  | 65 => ⟨S67200x1, .f32⟩
  | 66 => ⟨S67200, .f32⟩
  | 67 => ⟨S67200x1, .f32⟩
  | 68 => ⟨S67200, .f32⟩
  | 69 => ⟨S67200, .f32⟩
  | 70 => ⟨S67200x1, .f32⟩
  | 71 => ⟨S67200, .f32⟩
  | 72 => ⟨S67200x1, .f32⟩
  | 73 => ⟨S67200, .f32⟩
  | 74 => ⟨S67200, .f32⟩
  | 75 => ⟨S67200, .f32⟩
  | 76 => ⟨S67200, .f32⟩
  | 77 => ⟨S67200, .f32⟩
  | 78 => ⟨S_, .f32⟩
  | 79 => ⟨S67200, .f32⟩
  | 80 => ⟨S67200, .f32⟩
  | 81 => ⟨S67200, .f32⟩
  | 82 => ⟨S67200x1, .f32⟩
  | 83 => ⟨S67200, .f32⟩
  | 84 => ⟨S67200x1, .f32⟩
  | 85 => ⟨S67200, .f32⟩
  | 86 => ⟨S67200, .f32⟩
  | 87 => ⟨S_, .f32⟩
  | 88 => ⟨S67200, .f32⟩
  | 89 => ⟨S67200, .f32⟩
  | 90 => ⟨S67200x1, .f32⟩
  | 91 => ⟨S67200, .f32⟩
  | 92 => ⟨S67200x1, .f32⟩
  | 93 => ⟨S67200, .f32⟩
  | 94 => ⟨S67200, .f32⟩
  | 95 => ⟨S_, .f32⟩
  | 96 => ⟨S67200, .f32⟩
  | 97 => ⟨S67200, .f32⟩
  | 98 => ⟨S67200x1, .f32⟩
  | 99 => ⟨S67200, .f32⟩
  | 100 => ⟨S67200x1, .f32⟩
  | 101 => ⟨S67200, .f32⟩
  | 102 => ⟨S67200, .f32⟩
  | 103 => ⟨S_, .f32⟩
  | 104 => ⟨S67200, .f32⟩
  | 105 => ⟨S67200, .f32⟩
  | 106 => ⟨S67200x1, .f32⟩
  | 107 => ⟨S67200, .f32⟩
  | 108 => ⟨S67200x1, .f32⟩
  | 109 => ⟨S67200, .f32⟩
  | 110 => ⟨S67200, .f32⟩
  | 111 => ⟨S_, .f32⟩
  | 112 => ⟨S67200, .f32⟩
  | 113 => ⟨S67200, .f32⟩
  | 114 => ⟨S67200, .f32⟩
  | 115 => ⟨S67200, .f32⟩
  | 116 => ⟨S67200, .f32⟩
  | 117 => ⟨S67200, .f32⟩
  | 118 => ⟨S67200, .f32⟩
  | 119 => ⟨S67200x1, .f32⟩
  | 120 => ⟨S67200, .f32⟩
  | 121 => ⟨S67200x1, .f32⟩
  | 122 => ⟨S67200, .f32⟩
  | 123 => ⟨S67200, .f32⟩
  | 124 => ⟨S67200x1, .f32⟩
  | 125 => ⟨S67200, .f32⟩
  | 126 => ⟨S67200x1, .f32⟩
  | 127 => ⟨S67200, .f32⟩
  | _ => ⟨S8x8400x80, .f32⟩

abbrev hbmTy0_1 (i : Nat) : BufTy := match i % 128 with
  | 0 => ⟨S67200, .f32⟩
  | 1 => ⟨S67200, .f32⟩
  | 2 => ⟨S67200x1, .f32⟩
  | 3 => ⟨S67200, .f32⟩
  | 4 => ⟨S67200x1, .f32⟩
  | 5 => ⟨S67200, .f32⟩
  | 6 => ⟨S67200, .f32⟩
  | 7 => ⟨S67200x1, .f32⟩
  | 8 => ⟨S67200, .f32⟩
  | 9 => ⟨S67200x1, .f32⟩
  | 10 => ⟨S67200, .f32⟩
  | 11 => ⟨S67200, .f32⟩
  | 12 => ⟨S67200, .f32⟩
  | 13 => ⟨S67200, .f32⟩
  | 14 => ⟨S67200, .f32⟩
  | 15 => ⟨S67200, .f32⟩
  | 16 => ⟨S_, .f32⟩
  | 17 => ⟨S67200, .f32⟩
  | 18 => ⟨S67200, .f32⟩
  | 19 => ⟨S67200, .f32⟩
  | 20 => ⟨S67200, .f32⟩
  | 21 => ⟨S67200x1, .f32⟩
  | 22 => ⟨S67200, .f32⟩
  | 23 => ⟨S67200x1, .f32⟩
  | 24 => ⟨S67200, .f32⟩
  | 25 => ⟨S67200, .f32⟩
  | 26 => ⟨S67200x1, .f32⟩
  | 27 => ⟨S67200, .f32⟩
  | 28 => ⟨S67200x1, .f32⟩
  | 29 => ⟨S67200, .f32⟩
  | 30 => ⟨S67200, .f32⟩
  | 31 => ⟨S_, .f32⟩
  | 32 => ⟨S67200, .f32⟩
  | 33 => ⟨S67200, .f32⟩
  | 34 => ⟨S67200, .f32⟩
  | 35 => ⟨S_, .f32⟩
  | 36 => ⟨S67200, .f32⟩
  | 37 => ⟨S67200, .i1⟩
  | 38 => ⟨S_, .f32⟩
  | 39 => ⟨S67200, .f32⟩
  | 40 => ⟨S67200, .f32⟩
  | 41 => ⟨S_, .f32⟩
  | 42 => ⟨S67200, .f32⟩
  | 43 => ⟨S67200, .f32⟩
  | 44 => ⟨S67200, .f32⟩
  | 45 => ⟨S67200, .f32⟩
  | 46 => ⟨S_, .f32⟩
  | 47 => ⟨S67200, .f32⟩
  | 48 => ⟨S67200, .f32⟩
  | 49 => ⟨S67200, .f32⟩
  | 50 => ⟨S67200, .f32⟩
  | 51 => ⟨S67200, .f32⟩
  | 52 => ⟨S67200, .f32⟩
  | 53 => ⟨S_, .f32⟩
  | 54 => ⟨S67200, .f32⟩
  | 55 => ⟨S67200, .f32⟩
  | 56 => ⟨S67200, .f32⟩
  | 57 => ⟨S67200, .f32⟩
  | 58 => ⟨S67200, .f32⟩
  | 59 => ⟨S67200, .f32⟩
  | 60 => ⟨S67200, .f32⟩
  | 61 => ⟨S_, .f32⟩
  | 62 => ⟨S67200, .f32⟩
  | 63 => ⟨S67200, .f32⟩
  | 64 => ⟨S67200, .f32⟩
  | 65 => ⟨S67200, .f32⟩
  | 66 => ⟨S67200, .f32⟩
  | 67 => ⟨S67200, .f32⟩
  | 68 => ⟨S67200, .f32⟩
  | 69 => ⟨S_, .f32⟩
  | 70 => ⟨S67200, .f32⟩
  | 71 => ⟨S67200, .f32⟩
  | 72 => ⟨S67200, .f32⟩
  | 73 => ⟨S67200, .f32⟩
  | 74 => ⟨S67200, .f32⟩
  | 75 => ⟨S67200, .f32⟩
  | 76 => ⟨S67200, .f32⟩
  | 77 => ⟨S67200, .f32⟩
  | 78 => ⟨S_, .f32⟩
  | 79 => ⟨S67200, .f32⟩
  | 80 => ⟨S67200, .f32⟩
  | 81 => ⟨S67200, .f32⟩
  | 82 => ⟨S67200, .f32⟩
  | 83 => ⟨S67200, .f32⟩
  | 84 => ⟨S67200, .f32⟩
  | 85 => ⟨S67200, .f32⟩
  | 86 => ⟨S67200, .f32⟩
  | 87 => ⟨S_, .f32⟩
  | 88 => ⟨S67200, .f32⟩
  | 89 => ⟨S67200, .f32⟩
  | 90 => ⟨S67200, .f32⟩
  | 91 => ⟨S67200, .f32⟩
  | 92 => ⟨S67200, .f32⟩
  | 93 => ⟨S67200, .f32⟩
  | 94 => ⟨S67200, .f32⟩
  | 95 => ⟨S67200, .f32⟩
  | 96 => ⟨S67200, .f32⟩
  | 97 => ⟨S_, .f32⟩
  | 98 => ⟨S67200, .f32⟩
  | 99 => ⟨S67200, .f32⟩
  | 100 => ⟨S67200, .f32⟩
  | 101 => ⟨S67200, .f32⟩
  | 102 => ⟨S67200, .f32⟩
  | 103 => ⟨S67200, .f32⟩
  | 104 => ⟨S67200, .f32⟩
  | 105 => ⟨S67200, .f32⟩
  | 106 => ⟨S_, .f32⟩
  | 107 => ⟨S67200, .f32⟩
  | 108 => ⟨S67200, .f32⟩
  | 109 => ⟨S67200, .f32⟩
  | 110 => ⟨S_, .f32⟩
  | 111 => ⟨S67200, .f32⟩
  | 112 => ⟨S67200, .f32⟩
  | 113 => ⟨S_, .f32⟩
  | 114 => ⟨S67200, .f32⟩
  | 115 => ⟨S67200, .f32⟩
  | 116 => ⟨S_, .f32⟩
  | 117 => ⟨S67200, .f32⟩
  | 118 => ⟨S67200, .f32⟩
  | 119 => ⟨S67200, .f32⟩
  | 120 => ⟨S67200, .f32⟩
  | 121 => ⟨S_, .f32⟩
  | 122 => ⟨S67200, .f32⟩
  | 123 => ⟨S67200, .f32⟩
  | 124 => ⟨S67200, .f32⟩
  | 125 => ⟨S67200, .f32⟩
  | 126 => ⟨S67200, .f32⟩
  | 127 => ⟨S67200, .f32⟩
  | _ => ⟨S8x8400x80, .f32⟩

abbrev hbmTy0_2 (i : Nat) : BufTy := match i % 128 with
  | 0 => ⟨S_, .f32⟩
  | 1 => ⟨S67200, .f32⟩
  | 2 => ⟨S67200, .f32⟩
  | 3 => ⟨S67200, .f32⟩
  | 4 => ⟨S67200, .f32⟩
  | 5 => ⟨S67200, .f32⟩
  | 6 => ⟨S67200, .f32⟩
  | 7 => ⟨S67200, .f32⟩
  | 8 => ⟨S_, .f32⟩
  | 9 => ⟨S67200, .f32⟩
  | 10 => ⟨S67200, .f32⟩
  | 11 => ⟨S67200, .f32⟩
  | 12 => ⟨S67200, .f32⟩
  | 13 => ⟨S67200, .f32⟩
  | 14 => ⟨S67200, .f32⟩
  | 15 => ⟨S67200, .f32⟩
  | 16 => ⟨S_, .f32⟩
  | 17 => ⟨S67200, .f32⟩
  | 18 => ⟨S67200, .f32⟩
  | 19 => ⟨S67200, .f32⟩
  | 20 => ⟨S67200, .f32⟩
  | 21 => ⟨S67200, .f32⟩
  | 22 => ⟨S67200, .f32⟩
  | 23 => ⟨S67200, .f32⟩
  | 24 => ⟨S67200, .f32⟩
  | 25 => ⟨S_, .f32⟩
  | 26 => ⟨S67200, .f32⟩
  | 27 => ⟨S67200, .f32⟩
  | 28 => ⟨S67200, .f32⟩
  | 29 => ⟨S67200, .f32⟩
  | 30 => ⟨S67200, .f32⟩
  | 31 => ⟨S67200, .f32⟩
  | 32 => ⟨S67200, .f32⟩
  | 33 => ⟨S67200, .f32⟩
  | 34 => ⟨S_, .f32⟩
  | 35 => ⟨S67200, .f32⟩
  | 36 => ⟨S67200, .f32⟩
  | 37 => ⟨S67200, .f32⟩
  | 38 => ⟨S67200, .f32⟩
  | 39 => ⟨S67200, .f32⟩
  | 40 => ⟨S67200, .f32⟩
  | 41 => ⟨S67200, .f32⟩
  | 42 => ⟨S67200, .f32⟩
  | 43 => ⟨S67200, .f32⟩
  | 44 => ⟨S_, .f32⟩
  | 45 => ⟨S67200, .f32⟩
  | 46 => ⟨S67200, .f32⟩
  | 47 => ⟨S67200, .f32⟩
  | 48 => ⟨S67200, .f32⟩
  | 49 => ⟨S67200, .f32⟩
  | 50 => ⟨S67200, .f32⟩
  | 51 => ⟨S67200, .f32⟩
  | 52 => ⟨S67200, .f32⟩
  | 53 => ⟨S_, .f32⟩
  | 54 => ⟨S67200, .f32⟩
  | 55 => ⟨S67200, .f32⟩
  | 56 => ⟨S67200, .f32⟩
  | 57 => ⟨S_, .f32⟩
  | 58 => ⟨S67200, .f32⟩
  | 59 => ⟨S67200, .f32⟩
  | 60 => ⟨S67200, .f32⟩
  | 61 => ⟨S67200x1, .f32⟩
  | 62 => ⟨S67200, .f32⟩
  | 63 => ⟨S67200x1, .f32⟩
  | 64 => ⟨S67200, .f32⟩
  | 65 => ⟨S67200, .f32⟩
  | 66 => ⟨S67200x1, .f32⟩
  | 67 => ⟨S67200, .f32⟩
  | 68 => ⟨S67200x1, .f32⟩
  | 69 => ⟨S67200, .f32⟩
  | 70 => ⟨S67200, .f32⟩
  | 71 => ⟨S_, .f32⟩
  | 72 => ⟨S67200, .f32⟩
  | 73 => ⟨S67200, .f32⟩
  | 74 => ⟨S67200, .f32⟩
  | 75 => ⟨S_, .f32⟩
  | 76 => ⟨S67200, .f32⟩
  | 77 => ⟨S67200, .i1⟩
  | 78 => ⟨S_, .f32⟩
  | 79 => ⟨S67200, .f32⟩
  | 80 => ⟨S67200, .f32⟩
  | 81 => ⟨S_, .f32⟩
  | 82 => ⟨S67200, .f32⟩
  | 83 => ⟨S67200, .f32⟩
  | 84 => ⟨S67200, .f32⟩
  | 85 => ⟨S67200, .f32⟩
  | 86 => ⟨S_, .f32⟩
  | 87 => ⟨S67200, .f32⟩
  | 88 => ⟨S67200, .f32⟩
  | 89 => ⟨S67200, .f32⟩
  | 90 => ⟨S67200, .f32⟩
  | 91 => ⟨S67200, .f32⟩
  | 92 => ⟨S67200, .f32⟩
  | 93 => ⟨S_, .f32⟩
  | 94 => ⟨S67200, .f32⟩
  | 95 => ⟨S67200, .f32⟩
  | 96 => ⟨S67200, .f32⟩
  | 97 => ⟨S67200, .f32⟩
  | 98 => ⟨S67200, .f32⟩
  | 99 => ⟨S67200, .f32⟩
  | 100 => ⟨S67200, .f32⟩
  | 101 => ⟨S_, .f32⟩
  | 102 => ⟨S67200, .f32⟩
  | 103 => ⟨S67200, .f32⟩
  | 104 => ⟨S67200, .f32⟩
  | 105 => ⟨S67200, .f32⟩
  | 106 => ⟨S67200, .f32⟩
  | 107 => ⟨S67200, .f32⟩
  | 108 => ⟨S67200, .f32⟩
  | 109 => ⟨S_, .f32⟩
  | 110 => ⟨S67200, .f32⟩
  | 111 => ⟨S67200, .f32⟩
  | 112 => ⟨S67200, .f32⟩
  | 113 => ⟨S67200, .f32⟩
  | 114 => ⟨S67200, .f32⟩
  | 115 => ⟨S67200, .f32⟩
  | 116 => ⟨S67200, .f32⟩
  | 117 => ⟨S67200, .f32⟩
  | 118 => ⟨S_, .f32⟩
  | 119 => ⟨S67200, .f32⟩
  | 120 => ⟨S67200, .f32⟩
  | 121 => ⟨S67200, .f32⟩
  | 122 => ⟨S67200, .f32⟩
  | 123 => ⟨S67200, .f32⟩
  | 124 => ⟨S67200, .f32⟩
  | 125 => ⟨S67200, .f32⟩
  | 126 => ⟨S67200, .f32⟩
  | 127 => ⟨S_, .f32⟩
  | _ => ⟨S8x8400x80, .f32⟩

abbrev hbmTy0_3 (i : Nat) : BufTy := match i % 128 with
  | 0 => ⟨S67200, .f32⟩
  | 1 => ⟨S67200, .f32⟩
  | 2 => ⟨S67200, .f32⟩
  | 3 => ⟨S67200, .f32⟩
  | 4 => ⟨S67200, .f32⟩
  | 5 => ⟨S67200, .f32⟩
  | 6 => ⟨S67200, .f32⟩
  | 7 => ⟨S67200, .f32⟩
  | 8 => ⟨S67200, .f32⟩
  | 9 => ⟨S_, .f32⟩
  | 10 => ⟨S67200, .f32⟩
  | 11 => ⟨S67200, .f32⟩
  | 12 => ⟨S67200, .f32⟩
  | 13 => ⟨S67200, .f32⟩
  | 14 => ⟨S67200, .f32⟩
  | 15 => ⟨S67200, .f32⟩
  | 16 => ⟨S67200, .f32⟩
  | 17 => ⟨S67200, .f32⟩
  | 18 => ⟨S_, .f32⟩
  | 19 => ⟨S67200, .f32⟩
  | 20 => ⟨S67200, .f32⟩
  | 21 => ⟨S67200, .f32⟩
  | 22 => ⟨S_, .f32⟩
  | 23 => ⟨S67200, .f32⟩
  | 24 => ⟨S67200, .f32⟩
  | 25 => ⟨S_, .f32⟩
  | 26 => ⟨S67200, .f32⟩
  | 27 => ⟨S67200, .f32⟩
  | 28 => ⟨S_, .f32⟩
  | 29 => ⟨S67200, .f32⟩
  | 30 => ⟨S67200, .f32⟩
  | 31 => ⟨S67200, .f32⟩
  | 32 => ⟨S67200, .f32⟩
  | 33 => ⟨S_, .f32⟩
  | 34 => ⟨S67200, .f32⟩
  | 35 => ⟨S67200, .f32⟩
  | 36 => ⟨S67200, .f32⟩
  | 37 => ⟨S67200, .f32⟩
  | 38 => ⟨S67200, .f32⟩
  | 39 => ⟨S67200, .f32⟩
  | 40 => ⟨S_, .f32⟩
  | 41 => ⟨S67200, .f32⟩
  | 42 => ⟨S67200, .f32⟩
  | 43 => ⟨S67200, .f32⟩
  | 44 => ⟨S67200, .f32⟩
  | 45 => ⟨S67200, .f32⟩
  | 46 => ⟨S67200, .f32⟩
  | 47 => ⟨S67200, .f32⟩
  | 48 => ⟨S_, .f32⟩
  | 49 => ⟨S67200, .f32⟩
  | 50 => ⟨S67200, .f32⟩
  | 51 => ⟨S67200, .f32⟩
  | 52 => ⟨S67200, .f32⟩
  | 53 => ⟨S67200, .f32⟩
  | 54 => ⟨S67200, .f32⟩
  | 55 => ⟨S67200, .f32⟩
  | 56 => ⟨S_, .f32⟩
  | 57 => ⟨S67200, .f32⟩
  | 58 => ⟨S67200, .f32⟩
  | 59 => ⟨S67200, .f32⟩
  | 60 => ⟨S67200, .f32⟩
  | 61 => ⟨S67200, .f32⟩
  | 62 => ⟨S67200, .f32⟩
  | 63 => ⟨S67200, .f32⟩
  | 64 => ⟨S67200, .f32⟩
  | 65 => ⟨S_, .f32⟩
  | 66 => ⟨S67200, .f32⟩
  | 67 => ⟨S67200, .f32⟩
  | 68 => ⟨S67200, .f32⟩
  | 69 => ⟨S67200, .f32⟩
  | 70 => ⟨S67200, .f32⟩
  | 71 => ⟨S67200, .f32⟩
  | 72 => ⟨S67200, .f32⟩
  | 73 => ⟨S67200, .f32⟩
  | 74 => ⟨S_, .f32⟩
  | 75 => ⟨S67200, .f32⟩
  | 76 => ⟨S67200, .f32⟩
  | 77 => ⟨S67200, .f32⟩
  | 78 => ⟨S67200, .f32⟩
  | 79 => ⟨S67200, .f32⟩
  | 80 => ⟨S67200, .f32⟩
  | 81 => ⟨S67200, .f32⟩
  | 82 => ⟨S67200, .f32⟩
  | 83 => ⟨S67200, .f32⟩
  | 84 => ⟨S_, .f32⟩
  | 85 => ⟨S67200, .f32⟩
  | 86 => ⟨S67200, .f32⟩
  | 87 => ⟨S67200, .f32⟩
  | 88 => ⟨S67200, .f32⟩
  | 89 => ⟨S67200, .f32⟩
  | 90 => ⟨S67200, .f32⟩
  | 91 => ⟨S67200, .f32⟩
  | 92 => ⟨S67200, .f32⟩
  | 93 => ⟨S_, .f32⟩
  | 94 => ⟨S67200, .f32⟩
  | 95 => ⟨S67200, .f32⟩
  | 96 => ⟨S67200, .f32⟩
  | 97 => ⟨S_, .f32⟩
  | 98 => ⟨S67200, .f32⟩
  | 99 => ⟨S67200, .f32⟩
  | 100 => ⟨S67200, .f32⟩
  | 101 => ⟨S67200, .f32⟩
  | 102 => ⟨S67200, .f32⟩
  | 103 => ⟨S_, .f32⟩
  | 104 => ⟨S67200, .f32⟩
  | 105 => ⟨S67200, .f32⟩
  | 106 => ⟨S67200, .f32⟩
  | 107 => ⟨S_, .f32⟩
  | 108 => ⟨S67200, .f32⟩
  | 109 => ⟨S67200, .f32⟩
  | 110 => ⟨S_, .f32⟩
  | 111 => ⟨S67200, .f32⟩
  | 112 => ⟨S67200, .f32⟩
  | 113 => ⟨S67200, .f32⟩
  | 114 => ⟨S67200, .f32⟩
  | 115 => ⟨S67200, .f32⟩
  | 116 => ⟨S8x8400, .f32⟩
  | 117 => ⟨S_, .f32⟩
  | 118 => ⟨S8x8400, .f32⟩
  | 119 => ⟨S8x8400, .f32⟩
  | 120 => ⟨S8x8400, .f32⟩
  | 121 => ⟨S8x8400, .f32⟩
  | 122 => ⟨S_, .f32⟩
  | 123 => ⟨S_, .f32⟩
  | 124 => ⟨S_, .f32⟩
  | _ => ⟨S8x8400x80, .f32⟩

abbrev hbmTy (i : Nat) : BufTy := match i / 128 with
  | 0 => hbmTy0_0 i
  | 1 => hbmTy0_1 i
  | 2 => hbmTy0_2 i
  | 3 => hbmTy0_3 i
  | _ => ⟨S8x8400x80, .f32⟩

abbrev bufTy : (tb : Table) → Fin (tcTables nBuf tb) → BufTy
  | .hbm, ⟨i, _⟩ => hbmTy i
  | _, _ => ⟨S8x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c : Ref sig .tc := ⟨.hbm, 44, rfl⟩
abbrev main_call0_v0 : Ref sig .tc := ⟨.hbm, 45, rfl⟩
abbrev main_call0_v1 : Ref sig .tc := ⟨.hbm, 46, rfl⟩
abbrev main_v35 : Ref sig .tc := ⟨.hbm, 47, rfl⟩
abbrev main_v36 : Ref sig .tc := ⟨.hbm, 48, rfl⟩
abbrev main_c_1 : Ref sig .tc := ⟨.hbm, 49, rfl⟩
abbrev main_call1_v0 : Ref sig .tc := ⟨.hbm, 50, rfl⟩
abbrev main_call1_v1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_2 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_3 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_4 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_5 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_6 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_7 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_cst_8 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_9 : Ref sig .tc := ⟨.hbm, 163, rfl⟩
abbrev main_v141 : Ref sig .tc := ⟨.hbm, 164, rfl⟩
abbrev main_v142 : Ref sig .tc := ⟨.hbm, 165, rfl⟩
abbrev main_cst_10 : Ref sig .tc := ⟨.hbm, 166, rfl⟩
abbrev main_v143 : Ref sig .tc := ⟨.hbm, 167, rfl⟩
abbrev main_v144 : Ref sig .tc := ⟨.hbm, 168, rfl⟩
abbrev main_cst_11 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_cst_12 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_cst_13 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_cst_14 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_cst_15 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_cst_16 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_cst_17 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_cst_18 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_cst_19 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_cst_20 : Ref sig .tc := ⟨.hbm, 238, rfl⟩
abbrev main_v205 : Ref sig .tc := ⟨.hbm, 239, rfl⟩
abbrev main_v206 : Ref sig .tc := ⟨.hbm, 240, rfl⟩
abbrev main_cst_21 : Ref sig .tc := ⟨.hbm, 241, rfl⟩
abbrev main_v207 : Ref sig .tc := ⟨.hbm, 242, rfl⟩
abbrev main_v208 : Ref sig .tc := ⟨.hbm, 243, rfl⟩
abbrev main_cst_22 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_cst_23 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_cst_24 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_cst_25 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_cst_26 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_cst_27 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_cst_28 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_cst_29 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_cst_30 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_cst_31 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_cst_32 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_cst_33 : Ref sig .tc := ⟨.hbm, 331, rfl⟩
abbrev main_v285 : Ref sig .tc := ⟨.hbm, 332, rfl⟩
abbrev main_v286 : Ref sig .tc := ⟨.hbm, 333, rfl⟩
abbrev main_cst_34 : Ref sig .tc := ⟨.hbm, 334, rfl⟩
abbrev main_v287 : Ref sig .tc := ⟨.hbm, 335, rfl⟩
abbrev main_v288 : Ref sig .tc := ⟨.hbm, 336, rfl⟩
abbrev main_cst_35 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_cst_36 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_cst_37 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_cst_38 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_cst_39 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_v319 : Ref sig .tc := ⟨.hbm, 372, rfl⟩
abbrev main_v320 : Ref sig .tc := ⟨.hbm, 373, rfl⟩
abbrev main_cst_40 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_cst_41 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_cst_42 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_cst_43 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_cst_44 : Ref sig .tc := ⟨.hbm, 406, rfl⟩
abbrev main_v349 : Ref sig .tc := ⟨.hbm, 407, rfl⟩
abbrev main_v350 : Ref sig .tc := ⟨.hbm, 408, rfl⟩
abbrev main_cst_45 : Ref sig .tc := ⟨.hbm, 409, rfl⟩
abbrev main_v351 : Ref sig .tc := ⟨.hbm, 410, rfl⟩
abbrev main_v352 : Ref sig .tc := ⟨.hbm, 411, rfl⟩
abbrev main_cst_46 : Ref sig .tc := ⟨.hbm, 412, rfl⟩
abbrev main_v353 : Ref sig .tc := ⟨.hbm, 413, rfl⟩
abbrev main_v354 : Ref sig .tc := ⟨.hbm, 414, rfl⟩
abbrev main_v355 : Ref sig .tc := ⟨.hbm, 415, rfl⟩
abbrev main_v356 : Ref sig .tc := ⟨.hbm, 416, rfl⟩
abbrev main_cst_47 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_cst_48 : Ref sig .tc := ⟨.hbm, 424, rfl⟩
abbrev main_v363 : Ref sig .tc := ⟨.hbm, 425, rfl⟩
abbrev main_v364 : Ref sig .tc := ⟨.hbm, 426, rfl⟩
abbrev main_v365 : Ref sig .tc := ⟨.hbm, 427, rfl⟩
abbrev main_v366 : Ref sig .tc := ⟨.hbm, 428, rfl⟩
abbrev main_v367 : Ref sig .tc := ⟨.hbm, 429, rfl⟩
abbrev main_v368 : Ref sig .tc := ⟨.hbm, 430, rfl⟩
abbrev main_v369 : Ref sig .tc := ⟨.hbm, 431, rfl⟩
abbrev main_cst_49 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_cst_50 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_51 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_v391 : Ref sig .tc := ⟨.hbm, 456, rfl⟩
abbrev main_v392 : Ref sig .tc := ⟨.hbm, 457, rfl⟩
abbrev main_cst_52 : Ref sig .tc := ⟨.hbm, 458, rfl⟩
abbrev main_v393 : Ref sig .tc := ⟨.hbm, 459, rfl⟩
abbrev main_v394 : Ref sig .tc := ⟨.hbm, 460, rfl⟩
abbrev main_v395 : Ref sig .tc := ⟨.hbm, 461, rfl⟩
abbrev main_v396 : Ref sig .tc := ⟨.hbm, 462, rfl⟩
abbrev main_v397 : Ref sig .tc := ⟨.hbm, 463, rfl⟩
abbrev main_v398 : Ref sig .tc := ⟨.hbm, 464, rfl⟩
abbrev main_v399 : Ref sig .tc := ⟨.hbm, 465, rfl⟩
abbrev main_v400 : Ref sig .tc := ⟨.hbm, 466, rfl⟩
abbrev main_v401 : Ref sig .tc := ⟨.hbm, 467, rfl⟩
abbrev main_cst_53 : Ref sig .tc := ⟨.hbm, 468, rfl⟩
abbrev main_v402 : Ref sig .tc := ⟨.hbm, 469, rfl⟩
abbrev main_v403 : Ref sig .tc := ⟨.hbm, 470, rfl⟩
abbrev main_v404 : Ref sig .tc := ⟨.hbm, 471, rfl⟩
abbrev main_v405 : Ref sig .tc := ⟨.hbm, 472, rfl⟩
abbrev main_v406 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_cst_54 : Ref sig .tc := ⟨.hbm, 477, rfl⟩
abbrev main_v410 : Ref sig .tc := ⟨.hbm, 478, rfl⟩
abbrev main_v411 : Ref sig .tc := ⟨.hbm, 479, rfl⟩
abbrev main_v412 : Ref sig .tc := ⟨.hbm, 480, rfl⟩
abbrev main_cst_55 : Ref sig .tc := ⟨.hbm, 481, rfl⟩
abbrev main_v413 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_cst_56 : Ref sig .tc := ⟨.hbm, 487, rfl⟩
abbrev main_v418 : Ref sig .tc := ⟨.hbm, 488, rfl⟩
abbrev main_v419 : Ref sig .tc := ⟨.hbm, 489, rfl⟩
abbrev main_v420 : Ref sig .tc := ⟨.hbm, 490, rfl⟩
abbrev main_cst_57 : Ref sig .tc := ⟨.hbm, 491, rfl⟩
abbrev main_v421 : Ref sig .tc := ⟨.hbm, 492, rfl⟩
abbrev main_v422 : Ref sig .tc := ⟨.hbm, 493, rfl⟩
abbrev main_cst_58 : Ref sig .tc := ⟨.hbm, 494, rfl⟩
abbrev main_v423 : Ref sig .tc := ⟨.hbm, 495, rfl⟩
abbrev main_v424 : Ref sig .tc := ⟨.hbm, 496, rfl⟩
abbrev main_v425 : Ref sig .tc := ⟨.hbm, 497, rfl⟩
abbrev main_v426 : Ref sig .tc := ⟨.hbm, 498, rfl⟩
abbrev main_v427 : Ref sig .tc := ⟨.hbm, 499, rfl⟩
abbrev main_v428 : Ref sig .tc := ⟨.hbm, 500, rfl⟩
abbrev main_cst_59 : Ref sig .tc := ⟨.hbm, 501, rfl⟩
abbrev main_v429 : Ref sig .tc := ⟨.hbm, 502, rfl⟩
abbrev main_v430 : Ref sig .tc := ⟨.hbm, 503, rfl⟩
abbrev main_v431 : Ref sig .tc := ⟨.hbm, 504, rfl⟩
abbrev main_v432 : Ref sig .tc := ⟨.hbm, 505, rfl⟩
abbrev main_cst_60 : Ref sig .tc := ⟨.hbm, 506, rfl⟩
abbrev main_v433 : Ref sig .tc := ⟨.hbm, 507, rfl⟩
abbrev main_v434 : Ref sig .tc := ⟨.hbm, 508, rfl⟩

abbrev nD : Nat := 1
abbrev τ : Topo := Topo.v7x

variable {F : FTy → Type} [FloatOps F]
-- ==== Proof.Rest.lean ====
/-
  The reference's frame, and the named constants of the dense kernel.
-/
module

public import proofs.«01_k».proof.Defs
public import proofs.«01_k».proof.Proof.Gen.ReferenceIdeal.Run
public import Idealize.ShloMosaic.Adequacy

@[expose] public section

noncomputable section

namespace Cert.Proof.Det

open Idealize.ShloMosaic Idealize.SL.Sem

/-- `Cert.quiescent_ReferenceIdeal`. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The two names stand for `1 / log 2` and `log 2`. -/
theorem preserves : Cert.preserves_Kernel_KernelIdeal :=
  ⟨IdealRules.named_const.statement _ _ _ _ _ rfl, IdealRules.named_const.statement _ _ _ _ _ rfl⟩

end Cert.Proof.Det

end
-- ==== Proof.Base.lean ====
/-
  The setting of the detection-loss proof: the program as the SparseCore launch theorem sees it, the resource
  algebra, and what one vector subcore computes.  A subcore's scratch buffer, after its nine copies, is a closed
  function of the gathered components (`BUF`); one trip of its loop is `trip`; the accumulator after `n` trips is
  `accAt`; the row it writes is `OUT`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Det

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipeline's component: the left half of the right half. -/
def EP : Emb (UR sig nD τ) (MT nD τ sig (HIx 1) (Elt F) ℕ UU ℕ) :=
  (Emb.inl : Emb (UR sig nD τ) (UR sig nD τ × Counters)).trans embR
instance EP_landsIn : (EP (F := F)).LandsIn (upEmb : UEmb _ 𝕄) := by unfold EP embR; infer_instance

/-! ## The buffers -/

abbrev cLoc (d : Dev nD) : Loc nD τ sig := (SparseCore.T d).loc main_v25
abbrev oLoc (d : Dev nD) : Loc nD τ sig := (SparseCore.T d).loc main_v26

/-! ## What a subcore computes -/

/-- The index of a one-axis array at a place. -/
def ixC (n : Fin 608256) : S608256.Idx := fun | ⟨0, _⟩ => n
def ix16 (n : Fin 16) : S16.Idx := fun | ⟨0, _⟩ => n

/-- The scratch of subcore `w` after its nine copies: component `k` of its 2112 boxes in turn. -/
def BUF (C : S608256.Idx → F .f32) (w : Fin 32) : S19008.Idx → F .f32 := fun j =>
  C (ixC (⟨67584 * ((j 0).val / 2112) + 2112 * w.val + (j 0).val % 2112, by
    have h0 : (j 0).val < 19008 := (j 0).isLt
    have := w.isLt
    show _ < 608256
    omega⟩ : Fin 608256))

/-- Component `k`'s sixteen lanes at trip `t`, as the load reads them. -/
def lanes (B : S19008.Idx → F .f32) (t : Fin k0_t1_loop.trips) (k : Fin 9) : Vec F S16 .f32 :=
  (Memref.whole Cert.KernelIdeal.cc0_scratch0 : Memref sig .scVector .vmem S19008 .f32).view.readAt (Elt F)
    (Rect.unit (s := S19008) (k0_off2 t (BitVec.ofNat 32 (2112 * k.val))) S16.size (k0_off2_inb t k)).toLoadRect B

/-- One trip: the loss of sixteen boxes added to the accumulator. -/
def trip (B : S19008.Idx → F .f32) (t : Fin k0_t1_loop.trips) (a : Vec F S16 .f32) : Vec F S16 .f32 :=
  have v22 := k0_pay1 (lanes B t 0)
  have v26 := k0_pay2 (lanes B t 1)
  have v30 := k0_pay3 (lanes B t 2)
  have v34 := k0_pay4 (lanes B t 3)
  have v38 := k0_pay5 (lanes B t 4)
  have v42 := k0_pay6 (lanes B t 5)
  have v46 := k0_pay7 (lanes B t 6)
  have v50 := k0_pay8 (lanes B t 7)
  have v54 := k0_pay9 (lanes B t 8)
  have v63 := k0_pay11 (lanes B t 0) (lanes B t 2) (lanes B t 4) (lanes B t 6)
  have v64 := k0_pay12 (lanes B t 1) (lanes B t 3) (lanes B t 5) (lanes B t 7)
  have v78 := k0_pay13 v22 v26 v30 v34 v38 v42 v46 v50 v63 v64
  have v102 := k0_pay14 v22 v26 v30 v34 v38 v42 v46 v50 v63 v64
  have v107 := k0_pay15 v22 v26 v30 v34
  have v109 := k0_pay16 v22 v26 v30 v34
  have v113 := k0_pay17 v22 v26 v30 v34
  have v114 := k0_pay18 v22 v26 v30 v34
  have v115 := k0_pay19 v22 v26 v30 v34
  have v159 := k0_pay20 v115
  have v160 := k0_pay21 v114 (Scalar.ofBits .f32 0x3B403395#32)
  have v172 := k0_pay22 v107 v109 v113 v115 v159 v160
  have v177 := k0_pay23 v38 v42 v46 v50
  have v179 := k0_pay24 v38 v42 v46 v50
  have v183 := k0_pay25 v38 v42 v46 v50
  have v184 := k0_pay26 v38 v42 v46 v50
  have v185 := k0_pay27 v38 v42 v46 v50
  have v202 := k0_pay28 v38 v42 v46 v50
  have v203 := k0_pay29 v38 v42 v46 v50
  have v246 := k0_pay31 v172 v177 v179 v183 v184 v185 v202 v203 k0_pay30
  have v249 := k0_pay32 v78 v172 v177 v179 v183 v184 v185 v202 v203 k0_pay30
  k0_pay34 v54 (k0_pay10 a) v102 v246 v249 (Scalar.ofBits .f32 0x33D6BF95#32)

/-- The accumulator after `n` trips. -/
def accAt (B : S19008.Idx → F .f32) : ℕ → Vec F S16 .f32
  | 0 => k0_pay33
  | n + 1 => if h : n < k0_t1_loop.trips then trip B ⟨n, h⟩ (accAt B n) else accAt B n

/-- What all the subcores leave: row `w` is subcore `w`'s accumulator. -/
def OUT (C : S608256.Idx → F .f32) : S32x16.Idx → F .f32 := fun j =>
  accAt (BUF C (j 0)) k0_t1_loop.trips (ix16 (j 1))

end Cert.Proof.Det

end
-- ==== Proof.Tile.lean ====
/-
  One vector subcore of the detection loss, at a symbolic (core, subcore) pair: nine copies of its boxes' components
  into its scratch, 132 trips that add the loss of sixteen boxes to the accumulator, and the write-out of its row.
-/
module

public import proofs.«01_k».proof.Proof.Base

@[expose] public section

set_option maxRecDepth 16384

noncomputable section

namespace Cert.Proof.Det

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "cM" => (Memref.whole Cert.KernelIdeal.main_v25_scv : Memref Cert.KernelIdeal.sig Kind.scVector Space.hbm Cert.KernelIdeal.S608256 EltTy.f32)
local notation "oM" => (Memref.whole Cert.KernelIdeal.main_v26_scv : Memref Cert.KernelIdeal.sig Kind.scVector Space.hbm Cert.KernelIdeal.S32x16 EltTy.f32)
local notation "bM" => (Memref.whole Cert.KernelIdeal.cc0_scratch0 : Memref Cert.KernelIdeal.sig Kind.scVector Space.vmem Cert.KernelIdeal.S19008 EltTy.f32)
local notation "aM" => (Memref.whole Cert.KernelIdeal.cc0_scratch1 : Memref Cert.KernelIdeal.sig Kind.scVector Space.vmem Cert.KernelIdeal.S16 EltTy.f32)

abbrev cV (L : grid0.Coords) : Fin τ.nSC := (L 0).castLE hcore0
abbrev jV (L : grid0.Coords) : Fin τ.nSub := (L 1).castLE hsub0
abbrev oRowK (L : grid0.Coords) : Memref sig .scVector .hbm S16 .f32 :=
  ((oM).slice (Rect.unit (s := S32x16) (k0_off3 L) S1x16.size (k0_off3_inb L)) (fun _ => rfl)).squeeze S16 squeezes_S1x16_S16

/-- The tile's number. -/
theorem bound_zero : grid0.bound 0 = 2 := rfl
theorem bound_one : grid0.bound 1 = 16 := rfl
def wid (L : grid0.Coords) : Fin 32 := ⟨2 * (L 1).val + (L 0).val, by
  have h0 : (L 0).val < 2 := (L 0).isLt
  have h1 : (L 1).val < 16 := (L 1).isLt
  omega⟩

/-- One copy's payload is the closed function at the places it lands on. -/
theorem read_comp (C : S608256.Idx → F .f32) (L : grid0.Coords) (r : Fin 9) (h) (h' : ∀ a, (![2112 * r.val] : Fin 1 → ℕ) a + S2112.size a ≤ S19008.size a)
    (x : S2112.Idx) :
    ((cM).slice (Rect.unit (s := S608256) (k0_off1 L (BitVec.ofNat 32 (67584 * r.val))) S2112.size (k0_off1_inb L r)) h).view.read (Elt F) C x
      = BUF C (wid L) ((Rect.unit (s := S19008) ![2112 * r.val] S2112.size h').emb x) := by
  refine (View.read_apply _ _).trans ((cast_eq _ _).trans ?_)
  unfold BUF
  refine congrArg C (funext fun a => Fin.ext ?_)
  match a with
  | ⟨0, _⟩ =>
    have hx : (x 0).val < 2112 := (x 0).isLt
    have hr := r.isLt
    have e0 : ((Rect.unit (s := S19008) ![2112 * r.val] S2112.size h').emb x 0).val = 2112 * r.val + (x 0).val := by
      show 2112 * r.val + 1 * (x 0).val = _; omega
    show (k0_off1 L (BitVec.ofNat 32 (67584 * r.val))) 0 + 1 * (x 0).val = 67584 * (_ / 2112) + 2112 * (wid L).val + _ % 2112
    rw [e0, k0_off1_eq]
    show 67584 * r.val + 4224 * (L 1).val + 2112 * (L 0).val + 1 * (x 0).val = _
    have hw : (wid L).val = 2 * (L 1).val + (L 0).val := rfl
    rw [hw]
    omega

/-- The nine copies together leave the closed function. -/
theorem buf_writes (C : S608256.Idx → F .f32) (L : grid0.Coords) (fb : S19008.Idx → F .f32)
    (p8 p7 p6 p5 p4 p3 p2 p1 p0 : S2112.Idx → F .f32)
    (h8 : ∀ x, p8 x = BUF C (wid L) ((Rect.unit (s := S19008) ![16896] S2112.size inb_S19008_S2112_16896).emb x))
    (h7 : ∀ x, p7 x = BUF C (wid L) ((Rect.unit (s := S19008) ![14784] S2112.size inb_S19008_S2112_14784).emb x))
    (h6 : ∀ x, p6 x = BUF C (wid L) ((Rect.unit (s := S19008) ![12672] S2112.size inb_S19008_S2112_12672).emb x))
    (h5 : ∀ x, p5 x = BUF C (wid L) ((Rect.unit (s := S19008) ![10560] S2112.size inb_S19008_S2112_10560).emb x))
    (h4 : ∀ x, p4 x = BUF C (wid L) ((Rect.unit (s := S19008) ![8448] S2112.size inb_S19008_S2112_8448).emb x))
    (h3 : ∀ x, p3 x = BUF C (wid L) ((Rect.unit (s := S19008) ![6336] S2112.size inb_S19008_S2112_6336).emb x))
    (h2 : ∀ x, p2 x = BUF C (wid L) ((Rect.unit (s := S19008) ![4224] S2112.size inb_S19008_S2112_4224).emb x))
    (h1 : ∀ x, p1 x = BUF C (wid L) ((Rect.unit (s := S19008) ![2112] S2112.size inb_S19008_S2112_2112).emb x))
    (h0 : ∀ x, p0 x = BUF C (wid L) ((Rect.unit (s := S19008) ![0] S2112.size inb_S19008_S2112_0).emb x)) :
    (bM).view.writes (Elt F) fb
      [⟨Rect.unit ![16896] S2112.size inb_S19008_S2112_16896, p8⟩, ⟨Rect.unit ![14784] S2112.size inb_S19008_S2112_14784, p7⟩,
        ⟨Rect.unit ![12672] S2112.size inb_S19008_S2112_12672, p6⟩, ⟨Rect.unit ![10560] S2112.size inb_S19008_S2112_10560, p5⟩,
        ⟨Rect.unit ![8448] S2112.size inb_S19008_S2112_8448, p4⟩, ⟨Rect.unit ![6336] S2112.size inb_S19008_S2112_6336, p3⟩,
        ⟨Rect.unit ![4224] S2112.size inb_S19008_S2112_4224, p2⟩, ⟨Rect.unit ![2112] S2112.size inb_S19008_S2112_2112, p1⟩,
        ⟨Rect.unit ![0] S2112.size inb_S19008_S2112_0, p0⟩] = BUF C (wid L) := by
  refine View.contents_ext (bM).view (fun y => ?_) (fun i hi => absurd rfl (hi i))
  refine (View.read_writes_apply_of_pieces _ _ (BUF C (wid L)) _ ?_ y ?_).trans (congrFun (View.read_whole (Val := Elt F) _ (BUF C (wid L))).symm y)
  · simp only [List.forall_mem_cons]
    exact ⟨h8, h7, h6, h5, h4, h3, h2, h1, h0, fun _ h => absurd h List.not_mem_nil⟩
  · exact View.cover_of_blocks _ ![2112] (by decide) (fun ix => by
      have h9 : ∀ n : Fin (S19008.size 0 / 2112), n.val = 0 ∨ n.val = 1 ∨ n.val = 2 ∨ n.val = 3 ∨ n.val = 4 ∨ n.val = 5 ∨ n.val = 6 ∨ n.val = 7 ∨ n.val = 8 := by
        decide
      simp only [List.exists_mem_cons_iff]
      have fin1 : ∀ P : Fin S19008.rank → Prop, P 0 → ∀ a, P a := fun P h a => by
        match a with
        | ⟨0, _⟩ => exact h
      have key : ∀ k : ℕ, (ix 0).val = k → ∀ a : Fin S19008.rank, (![2112 * k] : Fin 1 → ℕ) a = (ix a).val * (![2112] : Fin 1 → ℕ) a := fun k hk =>
        fin1 _ (by show 2112 * k = (ix 0).val * 2112; omega)
      have sz : ∀ a : Fin S19008.rank, S2112.size a = (![2112] : Fin 1 → ℕ) a := fin1 _ rfl
      rcases h9 (ix 0) with h | h | h | h | h | h | h | h | h
      · iterate 8 right
        exact .inl ⟨key 0 h, sz, fun _ => rfl⟩
      · iterate 7 right
        exact .inl ⟨key 1 h, sz, fun _ => rfl⟩
      · iterate 6 right
        exact .inl ⟨key 2 h, sz, fun _ => rfl⟩
      · iterate 5 right
        exact .inl ⟨key 3 h, sz, fun _ => rfl⟩
      · iterate 4 right
        exact .inl ⟨key 4 h, sz, fun _ => rfl⟩
      · iterate 3 right
        exact .inl ⟨key 5 h, sz, fun _ => rfl⟩
      · iterate 2 right
        exact .inl ⟨key 6 h, sz, fun _ => rfl⟩
      · right
        exact .inl ⟨key 7 h, sz, fun _ => rfl⟩
      · exact .inl ⟨key 8 h, sz, fun _ => rfl⟩) y

/-- A store over the whole accumulator leaves what was stored, -/
theorem acc_write (f w : S16.Idx → F .f32) :
    (aM).view.writes (Elt F) f [⟨Rect.unit (s := S16) ![0] S16.size inb_S16_S16_0, w⟩] = w :=
  (View.writes_singleton (v := (aM).view) (Val := Elt F) (f := f) (Rect.unit (s := S16) ![0] S16.size inb_S16_S16_0) w).trans
    (Memref.write_access_unit_zero_univ (Elt F) cc0_scratch1 (by funext a; match a with | ⟨0, _⟩ => rfl) inb_S16_S16_0 f w)

/-- and a load of the whole accumulator reads it. -/
theorem acc_read (f : S16.Idx → F .f32) :
    (aM).view.readAt (Elt F) (Rect.unit (s := S16) ![0] S16.size inb_S16_S16_0).toLoadRect f = f :=
  Memref.readAt_unit_zero (Elt F) cc0_scratch1 (by funext a; match a with | ⟨0, _⟩ => rfl) inb_S16_S16_0 f

theorem squeeze_row (y : S16.Idx) : (Shape.reshapeEquiv squeezes_S1x16_S16.numel_eq y 1).val = (y 0).val := by
  have h : ∀ n : Fin 16, (Shape.reshapeEquiv squeezes_S1x16_S16.numel_eq (ix16 n) 1).val = n.val := by decide
  have e : y = ix16 (y 0) := by funext a; match a with | ⟨0, _⟩ => rfl
  rw [e]; exact h (y 0)

/-- Where the row's view puts its elements. -/
theorem row_emb_zero (L : grid0.Coords) (y : S16.Idx) : (oRowK L).view.emb y 0 = wid L := by
  refine Fin.ext ?_
  show (k0_off3 L) 0 + 1 * (Shape.reshapeEquiv squeezes_S1x16_S16.numel_eq y 0).val = _
  have : (Shape.reshapeEquiv squeezes_S1x16_S16.numel_eq y 0).val < 1 := (Shape.reshapeEquiv squeezes_S1x16_S16.numel_eq y 0).isLt
  rw [k0_off3_eq]
  show 2 * (L 1).val + (L 0).val + _ = 2 * (L 1).val + (L 0).val
  omega

theorem row_emb_one (L : grid0.Coords) (y : S16.Idx) : ((oRowK L).view.emb y 1).val = (y 0).val := by
  show (k0_off3 L) 1 + 1 * (Shape.reshapeEquiv squeezes_S1x16_S16.numel_eq y 1).val = _
  rw [squeeze_row, k0_off3_eq]
  show 0 + 1 * (y 0).val = (y 0).val
  omega

/-- The row's elements are those of row `wid L`. -/
theorem mem_row (L : grid0.Coords) (j : S32x16.Idx) : j ∈ (oRowK L).view.set ↔ j 0 = wid L := by
  constructor
  · intro h
    obtain ⟨y, -, rfl⟩ := Finset.mem_map.mp h
    exact row_emb_zero L y
  · intro h
    refine Finset.mem_map.mpr ⟨ix16 (j 1), Finset.mem_univ _, ?_⟩
    funext a
    match a with
    | ⟨0, _⟩ => exact (row_emb_zero L _).trans h.symm
    | ⟨1, _⟩ => exact Fin.ext (row_emb_one L _)

/-- Row `wid L` of what all the subcores leave is this one's accumulator. -/
theorem row_out (C : S608256.Idx → F .f32) (L : grid0.Coords) (y : S16.Idx) :
    OUT C ((oRowK L).view.emb y) = accAt (BUF C (wid L)) k0_t1_loop.trips y := by
  have h1 : ix16 ((oRowK L).view.emb y 1) = y := by
    funext a
    match a with
    | ⟨0, _⟩ => exact Fin.ext (row_emb_one L y)
  unfold OUT
  rw [row_emb_zero, h1]

/-- The row written from the accumulator. -/
theorem row_writes (C : S608256.Idx → F .f32) (L : grid0.Coords) (fo : S32x16.Idx → F .f32) (w : S16.Idx → F .f32)
    (hw : w = accAt (BUF C (wid L)) k0_t1_loop.trips) (i : S32x16.Idx) (hi : i ∈ (oRowK L).view.set) :
    (oRowK L).view.writes (Elt F) fo [⟨Rect.whole S16, w⟩] i = OUT C i := by
  obtain ⟨y, -, rfl⟩ := Finset.mem_map.mp hi
  rw [row_out, ← hw]
  have h := View.read_writes_cons_hit (Val := Elt F) (v := (oRowK L).view) (f := fo) (Rect.whole S16) w [] y y (Rect.emb_whole_apply S16 y)
  exact ((View.read_apply _ _).trans (cast_eq _ _)).symm.trans h

section Run

variable (d : Dev nD) (L : grid0.Coords)

/-- Between trips: the scratch as copied in, the accumulator after `n` of them. -/
def inv (B : S19008.Idx → F .f32) (n : ℕ) (_ : BitVec 32) : sProp 𝕄 :=
  iprop(((bM).view.loc (V d (cV L) (jV L)) ↦{fullShare} B) ∗ ((aM).view.loc (V d (cV L) (jV L)) ↦{fullShare} accAt B n))

set_option maxHeartbeats 8000000 in
/-- One trip of the loop: the accumulator steps. -/
theorem trip_run (B : S19008.Idx → F .f32) (k : Fin k0_t1_loop.trips) (c : BitVec 32) :
    (inv d L B k.val c : sProp 𝕄) ⊢ wp frame (wpE (defs₀ (F := F)) 𝒱₀ (V d (cV L) (jV L)) none) Set.univ
      (k0_t1_body L cM (Memref.isWhole_whole _) oM (Memref.isWhole_whole _) bM (Memref.isWhole_whole _) aM (Memref.isWhole_whole _)
            cc0_scoped0 cc0_scoped1 cc0_scoped2 cc0_scoped3 cc0_scoped4 cc0_scoped5 cc0_scoped6 cc0_scoped7 cc0_scoped8 cc0_scoped9 k c)
      fun c' => inv d L B (k.val + 1) c' := by
  unfold inv
  simp -proj only [k0_t1_body, k0_part1_eq_skeleton, k0_part1_skel, k0_part2_eq_skeleton, k0_part2_skel, k0_part3_eq_skeleton, k0_part3_skel,
    k0_part4_eq_skeleton, k0_part4_skel, k0_part5_eq_skeleton, k0_part5_skel, bind_assoc, pure_bind]
  iintro ⟨Hb, Ha⟩
  sl_exec
  sl_step
  isplitl [Hb]; · iexact Hb
  rw [acc_write]
  have e : accAt B (k.val + 1) = trip B k (accAt B k.val) := dif_pos k.isLt
  rw [e, acc_read]
  iexact Ha

set_option maxHeartbeats 8000000 in
theorem tile_run (C : S608256.Idx → F .f32) (q : PosShare TreeShare) (O : CellTallies nD τ sig (HIx 1)) (W : Waits sig (HIx 1))
    (fb : S19008.Idx → F .f32) (fa : S16.Idx → F .f32) (fo : S32x16.Idx → F .f32) :
    (iprop((Transfers.MayWaits (V d (cV L) (jV L)) (default : HIx 1) O : sProp 𝕄)
        ∗ ((cM).view.loc (V d (cV L) (jV L)) ↦{q} C)
        ∗ ((oRowK L).view.loc (V d (cV L) (jV L)) ↦[(oRowK L).view.set]{fullShare} fo)
        ∗ ((bM).view.loc (V d (cV L) (jV L)) ↦{fullShare} fb)
        ∗ ((aM).view.loc (V d (cV L) (jV L)) ↦{fullShare} fa)
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ semVal (V d (cV L) (jV L), SemLoc.dma cc0_scoped4.sem) 0
        ∗ semVal (V d (cV L) (jV L), SemLoc.dma cc0_scoped5.sem) 0
        ∗ semVal (V d (cV L) (jV L), SemLoc.dma cc0_scoped6.sem) 0
        ∗ semVal (V d (cV L) (jV L), SemLoc.dma cc0_scoped7.sem) 0
        ∗ semVal (V d (cV L) (jV L), SemLoc.dma cc0_scoped8.sem) 0
        ∗ semVal (V d (cV L) (jV L), SemLoc.dma cc0_scoped9.sem) 0
        ∗ owes (V d (cV L) (jV L)) O W) : sProp 𝕄)
      ⊢ wp frame (wpE (defs₀ (F := F)) 𝒱₀ (V d (cV L) (jV L)) none) Set.univ
          (cc0_sc_kernel L cM (Memref.isWhole_whole _) oM (Memref.isWhole_whole _) bM (Memref.isWhole_whole _) aM (Memref.isWhole_whole _)
            cc0_scoped0 cc0_scoped1 cc0_scoped2 cc0_scoped3 cc0_scoped4 cc0_scoped5 cc0_scoped6 cc0_scoped7 cc0_scoped8 cc0_scoped9)
          fun _ => iprop(((cM).view.loc (V d (cV L) (jV L)) ↦{q} C)
            ∗ ((oRowK L).view.loc (V d (cV L) (jV L)) ↦[(oRowK L).view.set]{fullShare} OUT C)
            ∗ (∃ f, (bM).view.loc (V d (cV L) (jV L)) ↦{fullShare} f)
            ∗ (∃ f, (aM).view.loc (V d (cV L) (jV L)) ↦{fullShare} f)
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ semVal (V d (cV L) (jV L), SemLoc.dma cc0_scoped4.sem) 0
            ∗ semVal (V d (cV L) (jV L), SemLoc.dma cc0_scoped5.sem) 0
            ∗ semVal (V d (cV L) (jV L), SemLoc.dma cc0_scoped6.sem) 0
            ∗ semVal (V d (cV L) (jV L), SemLoc.dma cc0_scoped7.sem) 0
            ∗ semVal (V d (cV L) (jV L), SemLoc.dma cc0_scoped8.sem) 0
            ∗ semVal (V d (cV L) (jV L), SemLoc.dma cc0_scoped9.sem) 0
            ∗ ∃ W', ⌜∀ p ∈ W', p ∈ W ∨ p.2 = none⌝ ∗ owes (V d (cV L) (jV L)) O W') := by
  simp -proj only [cc0_sc_kernel_eq_skeleton, cc0_sc_kernel_skel, k0_part8_eq_skeleton, k0_part8_skel, k0_part6_eq_skeleton, k0_part6_skel,
    k0_part7_eq_skeleton, k0_part7_skel, bind_assoc, pure_bind]
  iintro ⟨Hmw, Hc, Ho, Hb, Ha, S0, S1, S2, S3, S4, S5, S6, S7, S8, S9, HO⟩
  sl_exec
  rw [buf_writes C L _ (tile_run.sl.dma0_8 L C) (tile_run.sl.dma0_7 L C) (tile_run.sl.dma0_6 L C) (tile_run.sl.dma0_5 L C) (tile_run.sl.dma0_4 L C) (tile_run.sl.dma0_3 L C) (tile_run.sl.dma0_2 L C) (tile_run.sl.dma0_1 L C) (tile_run.sl.dma0 L C)
    (fun x => read_comp C L 8 (fun _ => rfl) inb_S19008_S2112_16896 x) (fun x => read_comp C L 7 (fun _ => rfl) inb_S19008_S2112_14784 x)
    (fun x => read_comp C L 6 (fun _ => rfl) inb_S19008_S2112_12672 x) (fun x => read_comp C L 5 (fun _ => rfl) inb_S19008_S2112_10560 x)
    (fun x => read_comp C L 4 (fun _ => rfl) inb_S19008_S2112_8448 x) (fun x => read_comp C L 3 (fun _ => rfl) inb_S19008_S2112_6336 x)
    (fun x => read_comp C L 2 (fun _ => rfl) inb_S19008_S2112_4224 x) (fun x => read_comp C L 1 (fun _ => rfl) inb_S19008_S2112_2112 x)
    (fun x => read_comp C L 0 (fun _ => rfl) inb_S19008_S2112_0 x)]
  have hA : (aM).view.writes (Elt F) (aM).view.junk tile_run.sl.Ha_1 = accAt (BUF C (wid L)) 0 := by
    exact acc_write _ _
  rw [hA]
  sl_for (inv d L (BUF C (wid L))) $$ [Hb Ha]
  case region =>
    intro k c
    exact trip_run d L (BUF C (wid L)) k c
  · unfold inv; isplitl [Hb]; · iexact Hb
    iexact Ha
  iintro %_ HI; unfold inv; icases HI with ⟨Hb, Ha⟩
  sl_exec
  sl_step
  isplitl [Hc]; · iexact Hc
  isplitl [Ho]
  · refine (pointsTo_congr (fun i hi => ?_)).le
    refine row_writes C L fo _ ?_ i hi
    rfl
  isplitl [Hb]; · iexists _; iexact Hb
  isplitl [Ha]; · iexists _; iexact Ha
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexists _
  isplitr
  rotate_left
  · iexact HO
  · ipureintro
    intro p hp
    simp only [Finset.mem_insert] at hp
    rcases hp with h | h | h | h | h | h | h | h | h | h | h
    all_goals first | exact .inl h | exact .inr (by rw [h]; rfl)

end Run

end Cert.Proof.Det

end
-- ==== Proof.Obl.lean ====
/-
  The vector subcore's run as the launch takes it: from the handshake's payload and the subcore's own storage, back to
  them.  A subcore is handed a read share of the gathered components and its own row of the result; the shares and the
  rows of all thirty-two together are the two arrays whole.
-/
module

public import proofs.«01_k».proof.Proof.Tile

@[expose] public section

set_option maxRecDepth 16384

noncomputable section

namespace Cert.Proof.Det

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "cM" => (Memref.whole Cert.KernelIdeal.main_v25_scv : Memref Cert.KernelIdeal.sig Kind.scVector Space.hbm Cert.KernelIdeal.S608256 EltTy.f32)
local notation "oM" => (Memref.whole Cert.KernelIdeal.main_v26_scv : Memref Cert.KernelIdeal.sig Kind.scVector Space.hbm Cert.KernelIdeal.S32x16 EltTy.f32)
local notation "bM" => (Memref.whole Cert.KernelIdeal.cc0_scratch0 : Memref Cert.KernelIdeal.sig Kind.scVector Space.vmem Cert.KernelIdeal.S19008 EltTy.f32)
local notation "aM" => (Memref.whole Cert.KernelIdeal.cc0_scratch1 : Memref Cert.KernelIdeal.sig Kind.scVector Space.vmem Cert.KernelIdeal.S16 EltTy.f32)

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- The place of a (core, subcore) pair. -/
abbrev LL (c : Fin 2) (i : Fin 16) : grid0.Coords := coordsV c i

/-- A subcore's share of the components: the full share halved five times. -/
def shareOf (L : grid0.Coords) : PosShare TreeShare := ShareLeaves.leaf 5 fullShare (wid L)

/-- What a subcore is handed of the two arrays, the result's at contents `f`. -/
def tilePts (d : Dev nD) (C : S608256.Idx → F .f32) (f : S32x16.Idx → F .f32) (L : grid0.Coords) : sProp 𝕄 :=
  iprop((cLoc d ↦{shareOf L} C) ∗ (oLoc d ↦[(oRowK L).view.set]{fullShare} f))

instance (d : Dev nD) (C : S608256.Idx → F .f32) (f : S32x16.Idx → F .f32) (L : grid0.Coords) :
    BI.Storable (upEmb : UEmb _ 𝕄) (tilePts d C f L) := by unfold tilePts; infer_instance

variable (C : Dev nD → S608256.Idx → F .f32) (fo : Dev nD → S32x16.Idx → F .f32)

/-- The call takes all subcores' parts and brings them back, the result's rows written. -/
def P : (K (F := F)).Pay (nD := nD) (Val := Elt F) (Name := ℕ) (U := UU) where
  st := fun q d c => match q with
    | 0 => bigSep Finset.univ fun i : Fin 16 => tilePts d (C d) (fo d) (LL (Fin.cast nCore_zero c) i)
  dn := fun q d c => match q with
    | 0 => bigSep Finset.univ fun i : Fin 16 => tilePts d (C d) (OUT (C d)) (LL (Fin.cast nCore_zero c) i)
  go := fun q d c i => match q with
    | 0 => tilePts d (C d) (fo d) (LL (Fin.cast nCore_zero c) (Fin.cast nSub_zero i))
  td := fun q d c i => match q with
    | 0 => tilePts d (C d) (OUT (C d)) (LL (Fin.cast nCore_zero c) (Fin.cast nSub_zero i))
  x := fun _ _ => iprop(emp)

instance P_storable : (P C fo).IsStorable where
  st q d c := match q with
    | 0 => (inferInstance : BI.Storable (upEmb : UEmb _ 𝕄) (bigSep Finset.univ fun i : Fin 16 => tilePts d (C d) (fo d) (LL (Fin.cast nCore_zero c) i)))
  dn q d c := match q with
    | 0 => (inferInstance : BI.Storable (upEmb : UEmb _ 𝕄) (bigSep Finset.univ fun i : Fin 16 => tilePts d (C d) (OUT (C d)) (LL (Fin.cast nCore_zero c) i)))
  go q d c i := match q with
    | 0 => (inferInstance : BI.Storable (upEmb : UEmb _ 𝕄) (tilePts d (C d) (fo d) (LL (Fin.cast nCore_zero c) (Fin.cast nSub_zero i))))
  td q d c i := match q with
    | 0 => (inferInstance : BI.Storable (upEmb : UEmb _ 𝕄) (tilePts d (C d) (OUT (C d)) (LL (Fin.cast nCore_zero c) (Fin.cast nSub_zero i))))

/-! ## The subcore's own storage -/

section Own

variable (d : Dev nD) (L : grid0.Coords)

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)
abbrev cell5 (d : Dev nD) (c : Fin τ.nSC) (i : Fin τ.nSub) : GSem nD τ sig := (V d c i, .dma cc0_scoped5.sem)
abbrev cell6 (d : Dev nD) (c : Fin τ.nSC) (i : Fin τ.nSub) : GSem nD τ sig := (V d c i, .dma cc0_scoped6.sem)
abbrev cell7 (d : Dev nD) (c : Fin τ.nSC) (i : Fin τ.nSub) : GSem nD τ sig := (V d c i, .dma cc0_scoped7.sem)
abbrev cell8 (d : Dev nD) (c : Fin τ.nSC) (i : Fin τ.nSub) : GSem nD τ sig := (V d c i, .dma cc0_scoped8.sem)
abbrev cell9 (d : Dev nD) (c : Fin τ.nSC) (i : Fin τ.nSub) : GSem nD τ sig := (V d c i, .dma cc0_scoped9.sem)

/-- The ten semaphores of the copies are among the subcore's own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0
          ∗ bigSep (((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))) fun g => semVal g 0) := by
  unfold SparseCore.Cfg.ownSems0
  rw [SparseCore.bigSep_erase' ((mem_ownCells (g := cell0 d (cV L) (jV L))).mpr ⟨rfl, by show (SemLoc.dma cc0_scoped0.sem : SemLoc sig).isScoped .scVector = true; decide⟩),
    SparseCore.bigSep_erase' (Finset.mem_erase.mpr ⟨fun e => absurd (Prod.mk.inj e).2 (by decide), ((mem_ownCells (g := cell1 d (cV L) (jV L))).mpr ⟨rfl, by show (SemLoc.dma cc0_scoped1.sem : SemLoc sig).isScoped .scVector = true; decide⟩)⟩),
    SparseCore.bigSep_erase' (Finset.mem_erase.mpr ⟨fun e => absurd (Prod.mk.inj e).2 (by decide), (Finset.mem_erase.mpr ⟨fun e => absurd (Prod.mk.inj e).2 (by decide), ((mem_ownCells (g := cell2 d (cV L) (jV L))).mpr ⟨rfl, by show (SemLoc.dma cc0_scoped2.sem : SemLoc sig).isScoped .scVector = true; decide⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell3 d (cV L) (jV L))).mpr ⟨rfl, by show (SemLoc.dma cc0_scoped3.sem : SemLoc sig).isScoped .scVector = true; decide⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell4 d (cV L) (jV L))).mpr ⟨rfl, by show (SemLoc.dma cc0_scoped4.sem : SemLoc sig).isScoped .scVector = true; decide⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell5 d (cV L) (jV L))).mpr ⟨rfl, by show (SemLoc.dma cc0_scoped5.sem : SemLoc sig).isScoped .scVector = true; decide⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell6 d (cV L) (jV L))).mpr ⟨rfl, by show (SemLoc.dma cc0_scoped6.sem : SemLoc sig).isScoped .scVector = true; decide⟩)⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell7 d (cV L) (jV L))).mpr ⟨rfl, by show (SemLoc.dma cc0_scoped7.sem : SemLoc sig).isScoped .scVector = true; decide⟩)⟩)⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell8 d (cV L) (jV L))).mpr ⟨rfl, by show (SemLoc.dma cc0_scoped8.sem : SemLoc sig).isScoped .scVector = true; decide⟩)⟩)⟩)⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := cell9 d (cV L) (jV L))).mpr ⟨rfl, by show (SemLoc.dma cc0_scoped9.sem : SemLoc sig).isScoped .scVector = true; decide⟩)⟩)⟩)⟩)⟩)⟩)⟩)⟩)⟩)⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- The task on vector subcore `L` of device `d`. -/
theorem tile_body (hF : (K (F := F)).Facts) (C : S608256.Idx → F .f32) (fo : S32x16.Idx → F .f32)
    (O : CellTallies nD τ sig (HIx 1)) (W : Waits sig (HIx 1)) (hO : ∀ g, O g none = 0) :
    (iprop(levAts (K (F := F)).L (K (F := F)).lev ∗ emp ∗ tilePts d C fo L
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_kernel L cM (Memref.isWhole_whole _) oM (Memref.isWhole_whole _) bM (Memref.isWhole_whole _) aM (Memref.isWhole_whole _)
            cc0_scoped0 cc0_scoped1 cc0_scoped2 cc0_scoped3 cc0_scoped4 cc0_scoped5 cc0_scoped6 cc0_scoped7 cc0_scoped8 cc0_scoped9)
          fun _ => iprop(tilePts d C (OUT C) L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tilePts
  iintro ⟨#Hlv, -, ⟨Hc, Ho⟩, ⟨⟨%fb, Hb⟩, ⟨%fa, Ha⟩, Hbufs⟩, ⟨S0, S1, S2, S3, S4, S5, S6, S7, S8, S9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := (tile_run d L C (shareOf L) O W fb fa fo) $$ [Hmw Hc Ho Hb Ha S0 S1 S2 S3 S4 S5 S6 S7 S8 S9 HO]
  · isplitl [Hmw]; · iexact Hmw
    isplitl [Hc]; · iexact Hc
    isplitl [Ho]; · iexact Ho
    isplitl [Hb]; · iexact Hb
    isplitl [Ha]; · iexact Ha
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact HO
  iapply wp_wand_r
  isplitl [Hwp]; · iexact Hwp
  iintro %_ ⟨Hc, Ho, Hb, Ha, S0, S1, S2, S3, S4, S5, S6, S7, S8, S9, HO⟩
  isplitl [Hc Ho]
  · isplitl [Hc]; · iexact Hc
    iexact Ho
  isplitl [Hb Ha Hbufs]
  · isplitl [Hb]; · iexact Hb
    isplitl [Ha]; · iexact Ha
    iexact Hbufs
  isplitl [S0 S1 S2 S3 S4 S5 S6 S7 S8 S9 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact Hsems
  iexact HO

end Own

theorem defs₀_vector (c : Fin τ.nSC) (s : Fin τ.nSub) :
    defs₀ (F := F) (.scVector c s) 0 ()
      = SparseCore.onTile hcore0 hsub0 (fun c s => cc0_sc_kernel (coordsV c s)
          cM (Memref.isWhole_whole _) oM (Memref.isWhole_whole _) bM (Memref.isWhole_whole _) aM (Memref.isWhole_whole _)
            cc0_scoped0 cc0_scoped1 cc0_scoped2 cc0_scoped3 cc0_scoped4 cc0_scoped5 cc0_scoped6 cc0_scoped7 cc0_scoped8 cc0_scoped9) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P C fo) v₀ 0 := by
  intro d c i O W hO _ _
  simp only [show (P C fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (C d) (fo d) O W hO).trans (wp_mono frame _ _ fun _ => obl_post)

theorem vecSplit : (K (F := F)).VecSplit' (P C fo) 0 := by
  intro d c
  have e : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  have e1 := e fun i => tilePts d (C d) (fo d) (LL (Fin.cast nCore_zero c) i)
  have e2 := e fun i => tilePts d (C d) (OUT (C d)) (LL (Fin.cast nCore_zero c) i)
  have h1 : (P C fo).st 0 d c ⊢ bigSep Finset.univ fun i : Fin ((K (F := F)).nSub 0) => (P C fo).go 0 d c i := Entails.of_eq e1.symm
  have h2 : (bigSep Finset.univ fun i : Fin ((K (F := F)).nSub 0) => (P C fo).td 0 d c i) ⊢ (P C fo).dn 0 d c := Entails.of_eq e2
  iintro H; imodintro
  isplitl [H]; · iapply h1; iexact H
  iintro H; iapply h2; iexact H

/-! ## All subcores' parts are the two arrays -/

theorem wid_inj {p p' : Fin 2 × Fin 16} (h : wid (LL p.1 p.2) = wid (LL p'.1 p'.2)) : p = p' := by
  have h' : 2 * p.2.val + p.1.val = 2 * p'.2.val + p'.1.val := congrArg Fin.val h
  have := p.1.isLt; have := p'.1.isLt
  exact Prod.ext (Fin.ext (by omega)) (Fin.ext (by omega))

/-- The subcores numbered. -/
def widEquiv : Fin 2 × Fin 16 ≃ Fin (2 ^ 5) :=
  Equiv.ofBijective (fun p => (wid (LL p.1 p.2) : Fin 32)) ((Fintype.bijective_iff_injective_and_card _).mpr ⟨fun _ _ h => wid_inj h, by decide⟩)

theorem shares_whole {ℓ : Loc nD τ sig} (f : Buf (Elt F) ℓ) :
    (bigSep Finset.univ fun p : Fin 2 × Fin 16 => (ℓ ↦{shareOf (LL p.1 p.2)} f : sProp 𝕄)) = ℓ ↦{fullShare} f :=
  ((ShareLeaves.pointsTo_leaves Finset.univ f 5 fullShare).trans (bigSep_univ_equiv widEquiv _)).symm

/-- A subcore's row, as a set of places of the result. -/
abbrev rowSet (d : Dev nD) (p : Fin 2 × Fin 16) : Finset (Idx (oLoc d)) := (oRowK (LL p.1 p.2)).view.set

theorem tiles_whole (d : Dev nD) (C : S608256.Idx → F .f32) (f : S32x16.Idx → F .f32) :
    (bigSep Finset.univ fun c : Fin 2 => bigSep Finset.univ fun i : Fin 16 => tilePts d C f (LL c i))
      = (iprop((cLoc d ↦{fullShare} C) ∗ (oLoc d ↦{fullShare} f)) : sProp 𝕄) := by
  have hr : (Finset.univ : Finset (Fin 2 × Fin 16)).biUnion (rowSet d) = Finset.univ := by
    refine Finset.eq_univ_iff_forall.mpr fun j => Finset.mem_biUnion.mpr ?_
    obtain ⟨p, hp⟩ := widEquiv.surjective (j 0)
    exact ⟨p, Finset.mem_univ _, (mem_row _ _).mpr hp.symm⟩
  have hd : ∀ p ∈ (Finset.univ : Finset (Fin 2 × Fin 16)), ∀ p' ∈ (Finset.univ : Finset (Fin 2 × Fin 16)), p ≠ p' →
      Disjoint (rowSet d p) (rowSet d p') := fun p _ p' _ h =>
    Finset.disjoint_left.mpr fun j h1 h2 => h (wid_inj (((mem_row _ _).mp h1).symm.trans ((mem_row _ _).mp h2)))
  rw [← SparseCore.bigSep_product Finset.univ Finset.univ (fun p : Fin 2 × Fin 16 => tilePts d C f (LL p.1 p.2)), Finset.univ_product_univ]
  unfold tilePts
  rw [bigSep_sep']
  congr 1
  · exact shares_whole (ℓ := cLoc d) C
  · exact (pointsTo_biUnion Finset.univ (ℓ := oLoc d) (rowSet d) hd).symm.trans (by rw [hr])

end Cert.Proof.Det

end
-- ==== Proof.Region.lean ====
/-
  The dense kernel: the class loss summed over the grid's four points into a one-row scratch, whose sum is stored at
  the last point.  The body is run once per kind of point (first, later, last) on symbolic staging buffers; the
  proof data of the pipeline carries the scratch's value.
-/
module

public import proofs.«01_k».proof.Proof.Base
public import Idealize.ShloMosaic.Lib.Pipeline.Value
public import Idealize.ShloMosaic.Lib.Pipeline.RegionsLoop

@[expose] public section

noncomputable section

namespace Cert.Proof.Det

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## Whole buffers read and written -/

theorem read_full {sp : Space} {S : Shape} {e : EltTy} (v : View sig .tc sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f := by
  subst h
  funext x
  show v.read (Elt F) f ((Rect.whole S).emb x) = _
  rw [Rect.emb_whole_apply]

theorem write_full {sp : Space} {S : Shape} {e : EltTy} (v : View sig .tc sp S e) {off : Fin S.rank → ℕ} (h : off = fun _ => 0)
    (inb : ∀ a, off a + S.size a ≤ S.size a) (f : v.ty.Contents (Elt F)) (w : S.Idx → Elt F e) :
    v.read (Elt F) (v.writes (Elt F) f [⟨Rect.unit off S.size inb, w⟩]) = w := by
  subst h
  funext y
  exact View.read_writes_cons_hit (Val := Elt F) (v := v) (f := f) (Rect.whole S) w [] y y (Rect.emb_whole_apply S y)

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-! ## The body at a point -/

abbrev scr : Memref sig .tc .vmem S1x80 .f32 := Memref.whole cc1_scratch0
abbrev cond1 (i : grid1.Coords) : BitVec 1 := Scalar.cmpi .ne (Scalar.extui (Scalar.cmpi .eq (BitVec.ofNat 32 (i 0).val) 0#32)) (0#32 : BitVec 32)
abbrev cond2 (i : grid1.Coords) : BitVec 1 := Scalar.cmpi .ne (Scalar.extui (Scalar.cmpi .sgt (BitVec.ofNat 32 (i 0).val) 0#32)) (0#32 : BitVec 32)

/-- A store over the whole scratch row leaves what was stored, -/
theorem scr_write (f w : S1x80.Idx → F .f32) :
    scr.view.writes (Elt F) f [⟨Rect.unit (s := S1x80) ![0, 0] S1x80.size inb_S1x80_S1x80_0_0, w⟩] = w :=
  (View.writes_singleton (v := scr.view) (Val := Elt F) (f := f) (Rect.unit (s := S1x80) ![0, 0] S1x80.size inb_S1x80_S1x80_0_0) w).trans
    (Memref.write_access_unit_zero_univ (Elt F) cc1_scratch0 zero2 inb_S1x80_S1x80_0_0 f w)

/-- and a load of it reads it. -/
theorem scr_read (f : S1x80.Idx → F .f32) :
    scr.view.readAt (Elt F) (Rect.unit (s := S1x80) ![0, 0] S1x80.size inb_S1x80_S1x80_0_0).toLoadRect f = f :=
  Memref.readAt_unit_zero (Elt F) cc1_scratch0 zero2 inb_S1x80_S1x80_0_0 f

section Body

variable (c : Dev nD) (i : grid1.Coords) (M0 M1 : Memref sig .tc .vmem S2x8400x80 .f32) (hM0 : M0.IsWhole) (hM1 : M1.IsWhole)
  (M2 : Memref sig .tc .smem S1x1 .f32) (hM2 : M2.IsWhole)

abbrev own {sp : Space} {S : Shape} {e : EltTy} (M : Memref sig .tc sp S e) (f : Buf (Elt F) (M.view.loc (c : Thread nD τ))) : sProp 𝕄 :=
  M.view.loc (c : Thread nD τ) ↦[M.view.set]{fullShare} f

set_option maxHeartbeats 4000000 in
theorem body_first (h1 : cond1 i = 1#1) (h2 : ¬ cond2 i = 1#1) (h3 : ¬ k1_cond3 i = 1#1) (f0 : Buf (Elt F) (M0.view.loc (c : Thread nD τ)))
    (f1 : Buf (Elt F) (M1.view.loc (c : Thread nD τ))) (fs : Buf (Elt F) (scr.view.loc (c : Thread nD τ))) :
    (iprop(own c M0 f0 ∗ own c M1 f1 ∗ (scr.view.loc (c : Thread nD τ) ↦{fullShare} fs)) : sProp 𝕄)
      ⊢ wp frame (wpE (defs₀ (F := F)) 𝒱₀ (c : Thread nD τ) none) Set.univ (cc1__bce_body i M0 hM0 M1 hM1 M2 hM2 scr (Memref.isWhole_whole _))
          fun _ => iprop(own c M0 f0 ∗ own c M1 f1
            ∗ (scr.view.loc (c : Thread nD τ) ↦{fullShare} (k1_pay2 (M0.view.read (Elt F) f0) (M1.view.read (Elt F) f1) : S1x80.Idx → F .f32))) := by
  simp -proj only [cc1__bce_body_eq_skeleton, cc1__bce_body_skel, dif_pos h1, dif_neg h2, dif_neg h3, bind_assoc, pure_bind]
  iintro ⟨H0, H1, Hs⟩
  sl_exec
  sl_step
  isplitl [H0]; · iexact H0
  isplitl [H1]; · iexact H1
  rw [scr_write, read_full M0.view zero3, read_full M1.view zero3]
  iexact Hs

set_option maxHeartbeats 4000000 in
theorem body_later (h1 : ¬ cond1 i = 1#1) (h2 : cond2 i = 1#1) (h3 : ¬ k1_cond3 i = 1#1) (f0 : Buf (Elt F) (M0.view.loc (c : Thread nD τ)))
    (f1 : Buf (Elt F) (M1.view.loc (c : Thread nD τ))) (fs : S1x80.Idx → F .f32) :
    (iprop(own c M0 f0 ∗ own c M1 f1 ∗ (scr.view.loc (c : Thread nD τ) ↦{fullShare} fs)) : sProp 𝕄)
      ⊢ wp frame (wpE (defs₀ (F := F)) 𝒱₀ (c : Thread nD τ) none) Set.univ (cc1__bce_body i M0 hM0 M1 hM1 M2 hM2 scr (Memref.isWhole_whole _))
          fun _ => iprop(own c M0 f0 ∗ own c M1 f1
            ∗ (scr.view.loc (c : Thread nD τ) ↦{fullShare} (k1_pay3 (M0.view.read (Elt F) f0) (M1.view.read (Elt F) f1) fs : S1x80.Idx → F .f32))) := by
  simp -proj only [cc1__bce_body_eq_skeleton, cc1__bce_body_skel, dif_neg h1, dif_pos h2, dif_neg h3, bind_assoc, pure_bind]
  iintro ⟨H0, H1, Hs⟩
  sl_exec
  sl_step
  isplitl [H0]; · iexact H0
  isplitl [H1]; · iexact H1
  rw [scr_write, read_full M0.view zero3, read_full M1.view zero3, scr_read]
  iexact Hs

set_option maxHeartbeats 4000000 in
theorem body_last (h1 : ¬ cond1 i = 1#1) (h2 : cond2 i = 1#1) (h3 : k1_cond3 i = 1#1) (f0 : Buf (Elt F) (M0.view.loc (c : Thread nD τ)))
    (f1 : Buf (Elt F) (M1.view.loc (c : Thread nD τ))) (f2 : Buf (Elt F) (M2.view.loc (c : Thread nD τ))) (fs : S1x80.Idx → F .f32) :
    (iprop(own c M0 f0 ∗ own c M1 f1 ∗ own c M2 f2 ∗ (scr.view.loc (c : Thread nD τ) ↦{fullShare} fs)) : sProp 𝕄)
      ⊢ wp frame (wpE (defs₀ (F := F)) 𝒱₀ (c : Thread nD τ) none) Set.univ (cc1__bce_body i M0 hM0 M1 hM1 M2 hM2 scr (Memref.isWhole_whole _))
          fun _ => iprop(own c M0 f0 ∗ own c M1 f1
            ∗ (∃ g, ⌜M2.view.read (Elt F) g = fun _ => k1_pay4 (k1_pay3 (M0.view.read (Elt F) f0) (M1.view.read (Elt F) f1) fs)⌝ ∗ own c M2 g)
            ∗ (scr.view.loc (c : Thread nD τ) ↦{fullShare} (k1_pay3 (M0.view.read (Elt F) f0) (M1.view.read (Elt F) f1) fs : S1x80.Idx → F .f32))) := by
  simp -proj only [cc1__bce_body_eq_skeleton, cc1__bce_body_skel, dif_neg h1, dif_pos h2, dif_pos h3, bind_assoc, pure_bind]
  iintro ⟨H0, H1, H2, Hs⟩
  sl_exec
  sl_step
  isplitl [H0]; · iexact H0
  isplitl [H1]; · iexact H1
  isplitl [H2]
  · iexists _
    isplitr; rotate_left
    · iexact H2
    ipureintro
    rw [write_full M2.view zero2]
    funext _
    refine congrArg k1_pay4 ?_
    unfold body_last.sl.v24 body_last.sl.Hs_1
    rw [View.readCov_unit_zero scr.view zero2, read_full M0.view zero3, read_full M1.view zero3, scr_read]
  unfold body_last.sl.Hs_1
  rw [scr_write, read_full M0.view zero3, read_full M1.view zero3, scr_read]
  iexact Hs

end Body

/-! ## The proof data -/

variable (V : (c : Dev nD) → (b : Ref sig .tc) → Buf (Elt F) ((c : Thread nD τ).loc b))

/-- The two blocks staged at a point. -/
abbrev blkP (c : Dev nD) (t : Fin cfg1.N) : S2x8400x80.Idx → F .f32 := ((cfg1.win 0).blk t).view.read (Elt F) (V c main_arg0)
abbrev blkT (c : Dev nD) (t : Fin cfg1.N) : S2x8400x80.Idx → F .f32 := ((cfg1.win 1).blk t).view.read (Elt F) (V c main_arg2)

/-- The scratch row after `n` points. -/
def accV (c : Dev nD) : ℕ → S1x80.Idx → F .f32
  | 0 => fun _ => Scalar.ofBits .f32 0#32
  | 1 => k1_pay2 (blkP V c t1_0) (blkT V c t1_0)
  | 2 => k1_pay3 (blkP V c t1_1) (blkT V c t1_1) (k1_pay2 (blkP V c t1_0) (blkT V c t1_0))
  | 3 => k1_pay3 (blkP V c t1_2) (blkT V c t1_2) (k1_pay3 (blkP V c t1_1) (blkT V c t1_1) (k1_pay2 (blkP V c t1_0) (blkT V c t1_0)))
  | _ => k1_pay3 (blkP V c t1_3) (blkT V c t1_3) (k1_pay3 (blkP V c t1_2) (blkT V c t1_2) (k1_pay3 (blkP V c t1_1) (blkT V c t1_1) (k1_pay2 (blkP V c t1_0) (blkT V c t1_0))))

/-- What the last point stores. -/
def bceV (c : Dev nD) : S1x1.Idx → F .f32 := fun _ => k1_pay4 (accV V c 4)

def Φv (c : Dev nD) (n : ℕ) : sProp 𝕄 :=
  iprop(∃ f : S1x80.Idx → F .f32, ⌜n ≠ 0 → f = accV V c n⌝ ∗ (scr.view.loc (c : Thread nD τ) ↦{fullShare} f))

/-- The pairs that may have been waited for: those at or below the call's level. -/
abbrev recd (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => blkP V c t
    | ⟨1, _⟩ => blkT V c t
    | ⟨2, _⟩ => bceV V c
  Φ t := Φv V c t.val
  q _ := fullShare
  owed _ := 0
  recorded _ := recd (F := F) c

theorem before_0 (c : Dev nD) (t : Fin cfg1.N) (d : (cfg1.win 0).block.Idx → Elt F (cfg1.win 0).elt) :
    (dat V c).before 0 t d = blkP V c t := by
  unfold Dat.before; rw [if_pos (fetch1_0 t)]; rfl
theorem before_1 (c : Dev nD) (t : Fin cfg1.N) (d : (cfg1.win 1).block.Idx → Elt F (cfg1.win 1).elt) :
    (dat V c).before 1 t d = blkT V c t := by
  unfold Dat.before; rw [if_pos (fetch1_1 t)]; rfl

theorem idle_0 : idle1 2 (grid1.coords t1_0) = true := by decide +kernel
theorem idle_1 : idle1 2 (grid1.coords t1_1) = true := by decide +kernel
theorem idle_2 : idle1 2 (grid1.coords t1_2) = true := by decide +kernel
theorem idle_3 : idle1 2 (grid1.coords t1_3) = false := by decide +kernel
theorem flush_0 : (cfg1.win 2).flush t1_0 = false := by decide +kernel
theorem flush_1 : (cfg1.win 2).flush t1_1 = false := by decide +kernel
theorem flush_2 : (cfg1.win 2).flush t1_2 = false := by decide +kernel

theorem leaves_idle (c : Dev nD) (t : Fin cfg1.N) (hi : idle1 2 (grid1.coords t) = true) (hf : (cfg1.win 2).flush t = false) :
    (dat V c).leavesExact 2 t = iprop(∃ d, owns (c : Thread nD τ) (st1_2 t) fullShare ((dat V c).before 2 t d)) :=
  (dat V c).leavesExact_idle 2 t hi hf
theorem leaves_live (c : Dev nD) (t : Fin cfg1.N) (hi : idle1 2 (grid1.coords t) = false) :
    (dat V c).leavesExact 2 t = owns (c : Thread nD τ) (st1_2 t) fullShare (bceV V c) := by
  unfold Dat.leavesExact
  rw [show cfg1.idle 2 (cfg1.grid.coords t) = false from hi]
  rfl

set_option maxHeartbeats 4000000 in
theorem body_obligation (c : Dev nD) : BodyObligation (dat V c) (defs₀ (F := F)) 𝒱₀ (none : HIx 1) Set.univ := fun t => by
  rw [bigSep_W1, bigSep_W1]
  show (iprop((dat V c).Φ t.castSucc ∗ (dat V c).owesAt none t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))) : sProp 𝕄)
      ⊢ wp frame (wpE (defs₀ (F := F)) 𝒱₀ (c : Thread nD τ) none) Set.univ (bodyAt1 t) fun _ =>
        iprop((dat V c).Φ t.succ ∗ (dat V c).owesAt none t.castSucc
          ∗ owns (c : Thread nD τ) (st1_0 t) fullShare (blkP V c t)
          ∗ owns (c : Thread nD τ) (st1_1 t) fullShare (blkT V c t)
          ∗ (dat V c).leavesExact 2 t)
  simp only [before_0, before_1]
  rcases fin_N1 t with rfl | rfl | rfl | rfl
  · rw [leaves_idle V c _ idle_0 flush_0]
    rw [show (dat V c).Φ (t1_0).castSucc = Φv V c 0 from rfl, show (dat V c).Φ (t1_0).succ = Φv V c 1 from rfl]
    unfold Φv owns
    iintro ⟨⟨%fs, %hs, Hs⟩, HO, ⟨%d0, %f0, %e0, H0⟩, ⟨%d1, %f1, %e1, H1⟩, H2⟩
    iapply wp_wand_r
    isplitl [Hs H0 H1]
    · iapply (body_first c (grid1.coords t1_0) _ _ _ _ _ _ (by decide +kernel) (by decide +kernel) (by decide +kernel) f0 f1 fs)
      isplitl [H0]; · iexact H0
      isplitl [H1]; · iexact H1
      iexact Hs
    iintro %_ ⟨H0, H1, Hs⟩
    isplitl [Hs]
    · iexists _
      isplitr; rotate_left
      · iexact Hs
      ipureintro
      intro _
      rw [e0, e1]
      rfl
    isplitl [HO]; · iexact HO
    isplitl [H0]; · iexists f0; isplitr; · ipureintro; exact e0
                    iexact H0
    isplitl [H1]; · iexists f1; isplitr; · ipureintro; exact e1
                    iexact H1
    iexact H2
  · rw [leaves_idle V c _ idle_1 flush_1]
    rw [show (dat V c).Φ (t1_1).castSucc = Φv V c 1 from rfl, show (dat V c).Φ (t1_1).succ = Φv V c 2 from rfl]
    unfold Φv owns
    iintro ⟨⟨%fs, %hs, Hs⟩, HO, ⟨%d0, %f0, %e0, H0⟩, ⟨%d1, %f1, %e1, H1⟩, H2⟩
    obtain rfl := hs (by decide)
    iapply wp_wand_r
    isplitl [Hs H0 H1]
    · iapply (body_later c (grid1.coords t1_1) _ _ _ _ _ _ (by decide +kernel) (by decide +kernel) (by decide +kernel) f0 f1 (accV V c 1))
      isplitl [H0]; · iexact H0
      isplitl [H1]; · iexact H1
      iexact Hs
    iintro %_ ⟨H0, H1, Hs⟩
    isplitl [Hs]
    · iexists _
      isplitr; rotate_left
      · iexact Hs
      ipureintro
      intro _
      rw [e0, e1]
      rfl
    isplitl [HO]; · iexact HO
    isplitl [H0]; · iexists f0; isplitr; · ipureintro; exact e0
                    iexact H0
    isplitl [H1]; · iexists f1; isplitr; · ipureintro; exact e1
                    iexact H1
    iexact H2
  · rw [leaves_idle V c _ idle_2 flush_2]
    rw [show (dat V c).Φ (t1_2).castSucc = Φv V c 2 from rfl, show (dat V c).Φ (t1_2).succ = Φv V c 3 from rfl]
    unfold Φv owns
    iintro ⟨⟨%fs, %hs, Hs⟩, HO, ⟨%d0, %f0, %e0, H0⟩, ⟨%d1, %f1, %e1, H1⟩, H2⟩
    obtain rfl := hs (by decide)
    iapply wp_wand_r
    isplitl [Hs H0 H1]
    · iapply (body_later c (grid1.coords t1_2) _ _ _ _ _ _ (by decide +kernel) (by decide +kernel) (by decide +kernel) f0 f1 (accV V c 2))
      isplitl [H0]; · iexact H0
      isplitl [H1]; · iexact H1
      iexact Hs
    iintro %_ ⟨H0, H1, Hs⟩
    isplitl [Hs]
    · iexists _
      isplitr; rotate_left
      · iexact Hs
      ipureintro
      intro _
      rw [e0, e1]
      rfl
    isplitl [HO]; · iexact HO
    isplitl [H0]; · iexists f0; isplitr; · ipureintro; exact e0
                    iexact H0
    isplitl [H1]; · iexists f1; isplitr; · ipureintro; exact e1
                    iexact H1
    iexact H2
  · rw [leaves_live V c _ idle_3]
    rw [show (dat V c).Φ (t1_3).castSucc = Φv V c 3 from rfl, show (dat V c).Φ (t1_3).succ = Φv V c 4 from rfl]
    unfold Φv owns
    iintro ⟨⟨%fs, %hs, Hs⟩, HO, ⟨%d0, %f0, %e0, H0⟩, ⟨%d1, %f1, %e1, H1⟩, ⟨%d2, %f2, -, H2⟩⟩
    obtain rfl := hs (by decide)
    iapply wp_wand_r
    isplitl [Hs H0 H1 H2]
    · iapply (body_last c (grid1.coords t1_3) _ _ _ _ _ _ (by decide +kernel) (by decide +kernel) (by decide +kernel) f0 f1 f2 (accV V c 3))
      isplitl [H0]; · iexact H0
      isplitl [H1]; · iexact H1
      isplitl [H2]; · iexact H2
      iexact Hs
    iintro %_ ⟨H0, H1, ⟨%g, %hg, H2⟩, Hs⟩
    rw [e0, e1] at hg
    isplitl [Hs]
    · iexists _
      isplitr; rotate_left
      · iexact Hs
      ipureintro
      intro _
      rw [e0, e1]
      rfl
    isplitl [HO]; · iexact HO
    isplitl [H0]; · iexists f0; isplitr; · ipureintro; exact e0
                    iexact H0
    isplitl [H1]; · iexists f1; isplitr; · ipureintro; exact e1
                    iexact H1
    iexists g
    isplitr; · ipureintro; exact hg
    iexact H2

/-! ## The region over the thread state -/

/-- The one block of the result is its whole array, which ends at what the last point stored. -/
theorem mem_blk2 (t : Fin cfg1.N) (i : S1x1.Idx) : i ∈ ((cfg1.win 2).blk t).view.set := by
  show i ∈ ((View.whole main_v27).slice (win1_2.rect t)).set
  rw [View.set_slice_whole, Rect.mem_set_unit]
  have h0 : (i 0 : ℕ) < 1 := (i 0).isLt
  have h1 : (i 1 : ℕ) < 1 := (i 1).isLt
  have e : win1_2.index t 0 * win1_2.size 0 = 0 ∧ win1_2.xsize (grid1.coords t) 0 = 1
      ∧ win1_2.index t 1 * win1_2.size 1 = 0 ∧ win1_2.xsize (grid1.coords t) 1 = 1 := by
    rcases fin_N1 t with rfl | rfl | rfl | rfl <;> decide +kernel
  intro a
  match a with
  | ⟨0, _⟩ => show win1_2.index t 0 * win1_2.size 0 ≤ (i 0 : Nat) ∧ (i 0 : Nat) < win1_2.index t 0 * win1_2.size 0 + win1_2.xsize (grid1.coords t) 0
              rw [e.1, e.2.1]; omega
  | ⟨1, _⟩ => show win1_2.index t 1 * win1_2.size 1 ≤ (i 1 : Nat) ∧ (i 1 : Nat) < win1_2.index t 1 * win1_2.size 1 + win1_2.xsize (grid1.coords t) 1
              rw [e.2.2.1, e.2.2.2]; omega

theorem final2 (c : Dev nD) : (dat V c).arrAt 2 cfg1.N = bceV V c :=
  (dat V c).arrAt_eq_of_cover 2 (bceV V c) (fun t _ => by
    funext x
    rfl) fun i => ⟨t1_3, (flush1_2 t1_3).mpr (by decide), mem_blk2 t1_3 i⟩

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- What the core's waits have recorded, at or below the call's level. -/
abbrev owesBelow (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
def reg (hVp_out : ∀ c, Vp c main_v27 = bceV V c) (hVp_ne : ∀ c (b : Ref sig .tc), b ≠ main_v27 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesBelow (F := F) c)
  post c := iprop(unscopedBufs c (Vp c) ∗ owesBelow (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φv V c 0 from rfl, scopedRest1_eq]
    unfold Φv
    iintro ⟨-, -, ⟨%f, Hr⟩⟩
    iexists f
    isplitr; · ipureintro; exact fun h => absurd rfl h
    iexact Hr
  hout c := by
    rw [Pipeline.ownSems0_none, show (pdats V adm 0 c).Φ (Fin.last _) = Φv V c 4 from rfl, scopedRest1_eq]
    unfold Φv
    iintro ⟨%f, -, Hr⟩
    isplitr; · iempintro
    isplitr; · iempintro
    iexists f
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg0 (by decide)).symm
        · exact ((pdats V adm 0 c).arrAt_in 1 rfl _).trans (hVp_ne c main_arg2 (by decide)).symm
        · exact (final2 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Det

end
-- ==== Proof.Main.lean ====
/-
  @main on the TensorCore: the host operations that lay the components out, the SparseCore call, the dense call, the
  host operations that divide.  `VF` is the valuation @main ends at; `run_main` is the whole mesh's run, at any
  interpretation of the floats.
-/
module

public import proofs.«01_k».proof.Proof.Obl
public import proofs.«01_k».proof.Proof.Region
public import Idealize.ShloMosaic.Lib.Pipeline.Frame

@[expose] public section

noncomputable section

namespace Cert.Proof.Det

open Cert.KernelIdeal Cert.KernelIdeal.Gen

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs pinD)

variable {F : FTy → Type} [FloatOps F] [Named F]

local notation "𝕄" => MT nD τ sig (HIx 1) (Elt F) ℕ UU ℕ

/-! ## The host operations -/

/-- The host operations before the calls. -/
abbrev ops1 : List (HloOp τ sig (Elt F)) :=
  [ reshape main_arg1 main_v0 (rfl : (.f32 : EltTy) = .f32) shapeCasts_S8x8400x4_S67200x4,
    reshape main_arg3 main_v1 (rfl : (.f32 : EltTy) = .f32) shapeCasts_S8x8400x4_S67200x4,
    reshape main_arg4 main_v2 (rfl : (.i1 : EltTy) = .i1) shapeCasts_S8x8400_S67200,
    unary main_v2 main_v3 (uitofp .f32 : (⟨S67200, .i1⟩ : BufTy).Contents (Elt F) → (⟨S67200, .f32⟩ : BufTy).Contents (Elt F)),
    reshape main_arg5 main_v4 (rfl : (.f32 : EltTy) = .f32) shapeCasts_S8x8400_S67200,
    binary main_v3 main_v4 main_v5 (mulf : (⟨S67200, .f32⟩ : BufTy).Contents (Elt F) → (⟨S67200, .f32⟩ : BufTy).Contents (Elt F) → (⟨S67200, .f32⟩ : BufTy).Contents (Elt F)),
    nullary main_cst (constant S_ .f32 0x00000000#32),
    unary main_cst main_v6 (broadcastInDim S384 ![] bcast_S_S384 : (⟨S_, .f32⟩ : BufTy).Contents (Elt F) → (⟨S384, .f32⟩ : BufTy).Contents (Elt F)),
    unary main_v0 main_v7 ((extractStridedSlice S67200x1 ![0, 0] · slices_S67200x4_S67200x1_0_0) : (⟨S67200x4, .f32⟩ : BufTy).Contents (Elt F) → (⟨S67200x1, .f32⟩ : BufTy).Contents (Elt F)),
    reshape main_v7 main_v8 (rfl : (.f32 : EltTy) = .f32) shapeCasts_S67200x1_S67200,
    unary main_v0 main_v9 ((extractStridedSlice S67200x1 ![0, 1] · slices_S67200x4_S67200x1_0_1) : (⟨S67200x4, .f32⟩ : BufTy).Contents (Elt F) → (⟨S67200x1, .f32⟩ : BufTy).Contents (Elt F)),
    reshape main_v9 main_v10 (rfl : (.f32 : EltTy) = .f32) shapeCasts_S67200x1_S67200,
    unary main_v0 main_v11 ((extractStridedSlice S67200x1 ![0, 2] · slices_S67200x4_S67200x1_0_2) : (⟨S67200x4, .f32⟩ : BufTy).Contents (Elt F) → (⟨S67200x1, .f32⟩ : BufTy).Contents (Elt F)),
    reshape main_v11 main_v12 (rfl : (.f32 : EltTy) = .f32) shapeCasts_S67200x1_S67200,
    unary main_v0 main_v13 ((extractStridedSlice S67200x1 ![0, 3] · slices_S67200x4_S67200x1_0_3) : (⟨S67200x4, .f32⟩ : BufTy).Contents (Elt F) → (⟨S67200x1, .f32⟩ : BufTy).Contents (Elt F)),
    reshape main_v13 main_v14 (rfl : (.f32 : EltTy) = .f32) shapeCasts_S67200x1_S67200,
    unary main_v1 main_v15 ((extractStridedSlice S67200x1 ![0, 0] · slices_S67200x4_S67200x1_0_0) : (⟨S67200x4, .f32⟩ : BufTy).Contents (Elt F) → (⟨S67200x1, .f32⟩ : BufTy).Contents (Elt F)),
    reshape main_v15 main_v16 (rfl : (.f32 : EltTy) = .f32) shapeCasts_S67200x1_S67200,
    unary main_v1 main_v17 ((extractStridedSlice S67200x1 ![0, 1] · slices_S67200x4_S67200x1_0_1) : (⟨S67200x4, .f32⟩ : BufTy).Contents (Elt F) → (⟨S67200x1, .f32⟩ : BufTy).Contents (Elt F)),
    reshape main_v17 main_v18 (rfl : (.f32 : EltTy) = .f32) shapeCasts_S67200x1_S67200,
    unary main_v1 main_v19 ((extractStridedSlice S67200x1 ![0, 2] · slices_S67200x4_S67200x1_0_2) : (⟨S67200x4, .f32⟩ : BufTy).Contents (Elt F) → (⟨S67200x1, .f32⟩ : BufTy).Contents (Elt F)),
    reshape main_v19 main_v20 (rfl : (.f32 : EltTy) = .f32) shapeCasts_S67200x1_S67200,
    unary main_v1 main_v21 ((extractStridedSlice S67200x1 ![0, 3] · slices_S67200x4_S67200x1_0_3) : (⟨S67200x4, .f32⟩ : BufTy).Contents (Elt F) → (⟨S67200x1, .f32⟩ : BufTy).Contents (Elt F)),
    reshape main_v21 main_v22 (rfl : (.f32 : EltTy) = .f32) shapeCasts_S67200x1_S67200,
    nary ![main_v8, main_v6, main_v10, main_v6, main_v12, main_v6, main_v14, main_v6, main_v16, main_v6, main_v18, main_v6, main_v20, main_v6, main_v22, main_v6] main_v23 (fun u => (concatenate S540672 0 [⟨S67200, (u 0 : (⟨S67200, .f32⟩ : BufTy).Contents (Elt F))⟩, ⟨S384, (u 1 : (⟨S384, .f32⟩ : BufTy).Contents (Elt F))⟩, ⟨S67200, (u 2 : (⟨S67200, .f32⟩ : BufTy).Contents (Elt F))⟩, ⟨S384, (u 3 : (⟨S384, .f32⟩ : BufTy).Contents (Elt F))⟩, ⟨S67200, (u 4 : (⟨S67200, .f32⟩ : BufTy).Contents (Elt F))⟩, ⟨S384, (u 5 : (⟨S384, .f32⟩ : BufTy).Contents (Elt F))⟩, ⟨S67200, (u 6 : (⟨S67200, .f32⟩ : BufTy).Contents (Elt F))⟩, ⟨S384, (u 7 : (⟨S384, .f32⟩ : BufTy).Contents (Elt F))⟩, ⟨S67200, (u 8 : (⟨S67200, .f32⟩ : BufTy).Contents (Elt F))⟩, ⟨S384, (u 9 : (⟨S384, .f32⟩ : BufTy).Contents (Elt F))⟩, ⟨S67200, (u 10 : (⟨S67200, .f32⟩ : BufTy).Contents (Elt F))⟩, ⟨S384, (u 11 : (⟨S384, .f32⟩ : BufTy).Contents (Elt F))⟩, ⟨S67200, (u 12 : (⟨S67200, .f32⟩ : BufTy).Contents (Elt F))⟩, ⟨S384, (u 13 : (⟨S384, .f32⟩ : BufTy).Contents (Elt F))⟩, ⟨S67200, (u 14 : (⟨S67200, .f32⟩ : BufTy).Contents (Elt F))⟩, ⟨S384, (u 15 : (⟨S384, .f32⟩ : BufTy).Contents (Elt F))⟩] concatenates_S67200_S384_S67200_S384_S67200_S384_S67200_S384_S67200_S384_S67200_S384_S67200_S384_S67200_S384_S540672_d0 : (⟨S540672, .f32⟩ : BufTy).Contents (Elt F))),
    binary main_v5 main_v6 main_v24 ((fun a b => concatenate S67584 0 [⟨S67200, a⟩, ⟨S384, b⟩] concatenates_S67200_S384_S67584_d0) : (⟨S67200, .f32⟩ : BufTy).Contents (Elt F) → (⟨S384, .f32⟩ : BufTy).Contents (Elt F) → (⟨S67584, .f32⟩ : BufTy).Contents (Elt F)),
    binary main_v23 main_v24 main_v25 ((fun a b => concatenate S608256 0 [⟨S540672, a⟩, ⟨S67584, b⟩] concatenates_S540672_S67584_S608256_d0) : (⟨S540672, .f32⟩ : BufTy).Contents (Elt F) → (⟨S67584, .f32⟩ : BufTy).Contents (Elt F) → (⟨S608256, .f32⟩ : BufTy).Contents (Elt F)) ]

/-- The host operations after the calls. -/
abbrev ops2 : List (HloOp τ sig (Elt F)) :=
  [ reshape main_v27 main_v28 (rfl : (.f32 : EltTy) = .f32) shapeCasts_S1x1_S_,
    binary main_v28 main_arg6 main_v29 (Host.divf : (⟨S_, .f32⟩ : BufTy).Contents (Elt F) → (⟨S_, .f32⟩ : BufTy).Contents (Elt F) → (⟨S_, .f32⟩ : BufTy).Contents (Elt F)),
    nullary main_cst_0 (constant S_ .f32 0x00000000#32),
    binary main_v26 main_cst_0 main_v30 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    binary main_v30 main_arg6 main_v31 (Host.divf : (⟨S_, .f32⟩ : BufTy).Contents (Elt F) → (⟨S_, .f32⟩ : BufTy).Contents (Elt F) → (⟨S_, .f32⟩ : BufTy).Contents (Elt F)) ]

set_option maxRecDepth 8192 in
theorem ops1_sub : (ops1 : List (HloOp τ sig (Elt F))).Forall fun op => op.bufs ⊆ tcRefs τ sig :=
  ⟨reshape_bufs_sub .., reshape_bufs_sub .., reshape_bufs_sub .., unary_bufs_sub .., reshape_bufs_sub .., binary_bufs_sub .., nullary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nary_bufs_sub .., binary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_sub : (ops2 : List (HloOp τ sig (Elt F))).Forall fun op => op.bufs ⊆ tcRefs τ sig :=
  ⟨reshape_bufs_sub .., binary_bufs_sub .., nullary_bufs_sub .., binary_bufs_sub .., binary_bufs_sub ..⟩
theorem ops2_fresh : (ops2 : List (HloOp τ sig (Elt F))).Forall fun op => op.fresh = ∅ :=
  ⟨rfl, rfl, rfl, rfl, rfl⟩

set_option maxRecDepth 8192 in
theorem main_eq (d : Dev nD) : main (F := F) d = (seq ops1 >>= fun _ => (K (F := F)).run d 0 >>= fun _ =>
    Prog.lift (.customCall (SparseCore.inner (Pipeline.entry 0)) ()) >>= fun _ => seq ops2) := rfl

/-! ## The valuations -/

section Vals

variable (m : (ℓ : Loc nD τ sig) → Buf (Elt F) ℓ)

/-- At the SparseCore call. -/
def V1 (d : Dev nD) : Valuation τ sig (Elt F) := after ops1 (launchContents m d)
/-- The components as the SparseCores see them. -/
def CC (d : Dev nD) : S608256.Idx → F .f32 := V1 m d main_v25
def FO (d : Dev nD) : S32x16.Idx → F .f32 := V1 m d main_v26
/-- After it. -/
def V2 (d : Dev nD) : Valuation τ sig (Elt F) := Function.update (V1 m d) (Proc.devRef .tc main_v26) (OUT (CC m d))
def V2b (d : Dev nD) (b : Ref sig .tc) : Buf (Elt F) ((d : Thread nD τ).loc b) := V2 m d b
/-- After the dense call. -/
def V3 (d : Dev nD) : Valuation τ sig (Elt F) := Function.update (V2 m d) (Proc.devRef .tc main_v27) (bceV (V2b m) d)
def V3b (d : Dev nD) (b : Ref sig .tc) : Buf (Elt F) ((d : Thread nD τ).loc b) := V3 m d b
/-- At the end. -/
def VF (d : Dev nD) : Valuation τ sig (Elt F) := after ops2 (V3 m d)

end Vals

abbrev adm : (p : Fin 1) → (pcfgs (F := F) p).Adm := fun p => (cfgs p).toPCfg_adm

def regF (m : (ℓ : Loc nD τ sig) → Buf (Elt F) ℓ) :=
  reg (F := F) (V2b m) adm (V3b m)
    (fun c => by unfold V3b V3; exact Function.update_self (f := V2 m c) ..)
    (fun c b hb => by unfold V3b V3; exact Function.update_of_ne (fun e => hb (Proc.devRef_injective _ e)) _ _)

/-! ## The launch element -/

variable (m : (ℓ : Loc nD τ sig) → Buf (Elt F) ℓ) (ρ : Dev nD → PrngReg)

abbrev PD : Dev nD → Fin 1 → Pipeline.Cfg sig Λ₀ := fun _ => Pipeline.pin (pcfgs (F := F)) adm
theorem phinj : Function.Injective (Pipeline.PerCore.cellOf (nD := nD) (τ := τ) (PD (F := F))) := cellOf_inj

def u₀ : UU := (initOf (K (F := F)).hsCells (K (F := F)).hsToks,
  (initOf (Pipeline.PerCore.cells (PD (F := F)) phinj) (Pipeline.PerCore.launchToks (PD (F := F)) phinj), 1))

/-- The pipeline's ghost state of a device. -/
def G (d : Dev nD) : sProp 𝕄 :=
  iprop(Pipeline.PerCore.cellsGhost (PD (F := F)) EP 0 d ∗ Pipeline.PerCore.toksInit (PD (F := F)) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (CC m) (FO m)).x q thr) := by
  unfold u₀ G
  rw [show (bigSep Finset.univ fun thr : Thread nD τ => bigSep Finset.univ fun q : Fin 1 => (P (CC m) (FO m)).x q thr) = bigSep Finset.univ fun _ => iprop(emp) from
    bigSep_congr fun _ _ => bigSep_univ_of_subsingleton (0 : Fin 1), bigSep_emp']
  have hpick (Φ : Fin 1 → Dev nD → sProp 𝕄) :
      (bigSep Finset.univ fun c : Dev nD => bigSep Finset.univ fun p' => Φ p' c) ⊢ bigSep Finset.univ fun c : Dev nD => Φ 0 c :=
    bigSep_mono fun c _ => BI.bigSep_elim (Finset.mem_univ 0)
  iintro Hu
  ihave H := (ownU_pair _ _) $$ Hu
  icases H with ⟨HH, HR⟩
  ihave H := (own_pair_emb _ _ _) $$ HR
  icases H with ⟨HP, -⟩
  ihave HP := (show (BI.own (((Emb.inl : Emb (UR sig nD τ) (UR sig nD τ × Counters)).trans embR) (initOf (Pipeline.PerCore.cells (PD (F := F)) phinj) (Pipeline.PerCore.launchToks (PD (F := F)) phinj))) : sProp 𝕄)
      ⊢ BI.own (EP (initOf (Pipeline.PerCore.cells (PD (F := F)) phinj) (Pipeline.PerCore.launchToks (PD (F := F)) phinj))) from .rfl) $$ HP
  imod (Pipeline.PerCore.fund_ghost (PD (F := F)) EP phinj) $$ HP with ⟨Hg, Ht⟩
  imodintro
  isplitl [HH]; · iexact HH
  isplitr []
  · simp only [bigSep_sep']
    isplitl [Hg]
    · iapply (hpick fun p' c => Pipeline.PerCore.cellsGhost (PD (F := F)) EP p' c); iexact Hg
    · iapply (hpick fun p' c => Pipeline.PerCore.toksInit (PD (F := F)) EP p' c); iexact Ht
  iempintro

/-! ## @main -/

theorem st0_eq (d : Dev nD) : (bigSep Finset.univ fun c : Fin ((K (F := F)).nCore 0) => (P (CC m) (FO m)).st 0 d c)
    = iprop((cLoc d ↦{fullShare} CC m d) ∗ (oLoc d ↦{fullShare} FO m d)) := tiles_whole d (CC m d) (FO m d)
theorem dn0_eq (d : Dev nD) : (bigSep Finset.univ fun c : Fin ((K (F := F)).nCore 0) => (P (CC m) (FO m)).dn 0 d c)
    = iprop((cLoc d ↦{fullShare} CC m d) ∗ (oLoc d ↦{fullShare} OUT (CC m d))) := tiles_whole d (CC m d) (OUT (CC m d))

abbrev two : Finset (DevRef τ sig) := {(main_v25 : DevRef τ sig), (main_v26 : DevRef τ sig)}
theorem two_sub : two ⊆ ucRefs τ sig := by
  intro b hb
  rcases Finset.mem_insert.mp hb with rfl | hb
  · exact Finset.mem_filter.mpr ⟨devRef_mem_tcRefs _, by decide⟩
  · rw [Finset.mem_singleton.mp hb]; exact Finset.mem_filter.mpr ⟨devRef_mem_tcRefs _, by decide⟩

theorem held_two (d : Dev nD) (W : Valuation τ sig (Elt F)) :
    (held (d : Thread nD τ) (ucRefs τ sig) W : sProp 𝕄)
      = iprop(((cLoc d ↦{fullShare} W main_v25) ∗ (oLoc d ↦{fullShare} W main_v26)) ∗ held (d : Thread nD τ) (ucRefs τ sig \ two) W) := by
  rw [held_sub_split (d : Thread nD τ) two_sub W]
  congr 1
  unfold held
  rw [SparseCore.bigSep_insert' (by decide), bigSep_singleton]

theorem held_V2 (d : Dev nD) :
    (held (d : Thread nD τ) (ucRefs τ sig) (V2 m d) : sProp 𝕄)
      = iprop(((cLoc d ↦{fullShare} CC m d) ∗ (oLoc d ↦{fullShare} OUT (CC m d))) ∗ held (d : Thread nD τ) (ucRefs τ sig \ two) (V1 m d)) := by
  rw [held_two, held_congr (d : Thread nD τ) (S := ucRefs τ sig \ two) (V := V2 m d) (V' := V1 m d) fun b hb =>
    Function.update_of_ne (fun e => (Finset.mem_sdiff.mp hb).2 (by rw [e]; exact Finset.mem_insert_of_mem (Finset.mem_singleton_self _))) _ _]
  rw [show V2 m d main_v25 = CC m d from Function.update_of_ne (by decide) _ _, show V2 m d main_v26 = OUT (CC m d) from Function.update_self _ _ _]

abbrev FIN (d : Dev nD) : sProp 𝕄 := held (d : Thread nD τ) (ucRefs τ sig) (VF m d)

theorem unscoped_eq (d : Dev nD) : (unscopedBufs d (fun b => m ((SparseCore.T d).loc b)) : sProp 𝕄) = held (d : Thread nD τ) (ucRefs τ sig) (launchContents m d) :=
  unscopedBufs_held d (launchContents m d)

theorem unscoped_V2 (d : Dev nD) : (unscopedBufs d (V2b m d) : sProp 𝕄) = held (d : Thread nD τ) (ucRefs τ sig) (V2 m d) :=
  unscopedBufs_held d (V2 m d)
theorem unscoped_V3 (d : Dev nD) : (unscopedBufs d (V3b m d) : sProp 𝕄) = held (d : Thread nD τ) (ucRefs τ sig) (V3 m d) :=
  unscopedBufs_held d (V3 m d)

/-- The dense call in the pipelines' own signature. -/
abbrev denseProg : Prog (TpuEff nD τ sig (Elt F) (ΛP (F := F)) .tc) PUnit :=
  Prog.op (.customCall (Λ := ΛP (F := F)) (Pipeline.entry 0) ()) fun _ => .ret ⟨⟩

theorem dense_lift : (Prog.lift (.customCall (SparseCore.inner (Pipeline.entry 0)) ()) :
      Prog (TpuEff nD τ sig (Elt F) (SparseCore.Sig (ΛP (F := F)) 1) .tc) PUnit)
    = SparseCore.liftProg (Q := 1) (denseProg (F := F)) := rfl

set_option backward.isDefEq.respectTransparency.types false in
theorem dense_run [∀ e, Nonempty (Elt F e)] (d : Dev nD) (Q : PUnit → sProp 𝕄) :
    iprop((iprop(boundary (d : Thread nD τ) ∗ unscopedBufs d (V3b m d) ∗ owesBelow (F := F) d) -∗ wp frame (wpE (D (F := F)) 𝒱 (d : Thread nD τ) none) Set.univ (.ret ⟨⟩) Q)
        ∗ boundary (d : Thread nD τ) ∗ (unscopedBufs d (V2b m d) ∗ owesBelow (F := F) d) ∗ levAts (K (F := F)).L (K (F := F)).lev ∗ G (F := F) d)
      ⊢ wp frame (wpE (D (F := F)) 𝒱 (d : Thread nD τ) none) Set.univ (denseProg (F := F)) Q := by
  have hpre : (regF m).pre d = iprop(unscopedBufs d (V2b m d) ∗ owesBelow (F := F) d) := rfl
  have hpost : (regF m).post d = iprop(unscopedBufs d (V3b m d) ∗ owesBelow (F := F) d) := rfl
  have hv : ∀ u ∈ (none : Option (𝒱).V), (𝒱).lt (.inr ((Pipeline.pin (pcfgs (F := F)) adm 0).tripCount + 1)) u := fun u hu => absurd hu (Option.not_mem_none u)
  rw [← hpre, ← hpost]
  unfold G
  exact Pipeline.RegionSeg.wp (pcfgs (F := F)) adm (pdats (V2b m) adm) (none : HIx 1) (phinj (F := F)) EP defs₀ 𝒱₀ (K (F := F)).L (K (F := F)).lev (regF m) d none hv (fun _ => .ret ⟨⟩) Q

/-- The dense call, at the head of what remains of @main. -/
theorem dense_call [∀ e, Nonempty (Elt F e)] (d : Dev nD) :
    iprop(boundary (d : Thread nD τ) ∗ (held (d : Thread nD τ) (ucRefs τ sig) (V2 m d) ∗ owesBelow (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ()))
          fun _ => iprop(boundary (d : Thread nD τ) ∗ held (d : Thread nD τ) (ucRefs τ sig) (V3 m d) ∗ owesBelow (F := F) d) := by
  rw [← unscoped_V2, ← unscoped_V3, dense_lift]
  refine BIBase.Entails.trans ?_ ((K (F := F)).wp_liftProg (D (F := F)) 𝒱 (SparseCore.T d) Set.univ none (denseProg (F := F)) _)
  refine BIBase.Entails.trans ?_ (dense_run m d _)
  iintro ⟨Hb, Hp, Hl, Hg⟩
  isplitr [Hb Hp Hl Hg]
  · iintro ⟨Hb, Hp⟩
    rw [wp_ret]
    imodintro
    isplitl [Hb] <;> iassumption
  isplitl [Hb]; · iexact Hb
  isplitl [Hp]; · iexact Hp
  isplitl [Hl] <;> iassumption

set_option maxRecDepth 16384 in
set_option backward.isDefEq.respectTransparency.types false in
theorem hmain [∀ e, Nonempty (Elt F e)] (κ : GSem nD τ sig → ℕ) (d : Dev nD) :
    iprop((K (F := F)).ctx EH (P (CC m) (FO m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq, main_eq]
  iintro ⟨#Hctx, Hst, ⟨Hb, Hh, Hts, -⟩, Hg⟩
  iapply (wp_seq (defs := (K (F := F)).defs (D (F := F))) 𝒱 none Set.univ d (ucRefs τ sig) _ ops1
    (fun op h => sub_ucRefs op (List.forall_iff_forall_mem.mp ops1_sub op h)) (List.forall_iff_forall_mem.mp ops1_fresh) (launchContents m d)) $$ [Hb Hh]
  · isplitl [Hb] <;> iassumption
  iintro ⟨Hb, Hh⟩
  ihave Hh' := (Entails.of_eq (held_two d (after ops1 (launchContents m d)))) $$ Hh
  icases Hh' with ⟨⟨Hc, Ho⟩, Hh⟩
  rw [wp_bind]
  iapply ((K (F := F)).wp_run (D (F := F)) 𝒱 (EH := EH) (P := P (CC m) (FO m)) κ d 0) $$ [Hst Hc Ho Hh Hb Hts Hg]
  isplitr; · iexact Hctx
  isplitl [Hst]; · iexact Hst
  isplitl [Hc Ho]
  · rw [st0_eq]
    isplitl [Hc]; · iexact Hc
    iexact Ho
  iintro ⟨Hst, Hdn⟩
  ihave Hdn' := (Entails.of_eq (dn0_eq m d)) $$ Hdn
  ihave Hh := (Entails.of_eq (held_V2 m d).symm) $$ [Hdn' Hh]
  · isplitl [Hdn']; · iexact Hdn'
    iexact Hh
  ihave Hlv := ((K (F := F)).ctx_levAts (EH := EH) (P := P (CC m) (FO m)) κ) $$ Hctx
  rw [show (((0 : Fin 1) : ℕ) + 1) = 1 from rfl]
  unfold SparseCore.Cfg.tcSt
  rw [(K (F := F)).Otc_end d (le_refl 1)]
  icases Hst with ⟨HO, Hst⟩
  rw [wp_bind]
  iapply (wp_wand_r frame _ Set.univ)
  isplitl [Hb Hh HO Hlv Hg]
  · iapply (dense_call m d)
    isplitl [Hb]; · iexact Hb
    isplitl [Hh HO]
    · isplitl [Hh]; · iexact Hh
      iexact HO
    isplitl [Hlv]; · iexact Hlv
    iexact Hg
  iintro %_x ⟨Hb, Hh, HO⟩
  rw [show (seq ops2 : Prog (TpuEff nD τ sig (Elt F) _ .tc) PUnit) = (seq ops2 >>= fun _ => .ret ⟨⟩) from rfl]
  iapply (wp_seq (defs := (K (F := F)).defs (D (F := F))) 𝒱 none Set.univ d (ucRefs τ sig) _ ops2
    (fun op h => sub_ucRefs op (List.forall_iff_forall_mem.mp ops2_sub op h)) (List.forall_iff_forall_mem.mp ops2_fresh) (V3 m d)) $$ [Hb Hh]
  · isplitl [Hb] <;> iassumption
  iintro ⟨Hb, Hh⟩
  rw [wp_ret]
  imodintro
  isplitl [HO Hst]
  · isplitl [HO]; · iexact HO
    iexact Hst
  isplitl [Hh]; · iexact Hh
  isplitl [Hb] <;> iassumption

/-! ## The whole mesh's run -/

def fq (d : Dev nD) (s' : Phys nD τ sig (Elt F)) : Prop := ∀ b ∈ ucRefs τ sig, s'.mem.mem (d, b) = VF m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

def QC : PUnit × MemSt nD τ sig (Elt F) → Prop := fun r => (∀ c : Dev nD, ∀ b ∈ ucRefs τ sig, r.2.mem (c, b) = VF m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (CC m) (FO m)) (A := ∅) facts v₀
    (fun q hq => match q with | 0 => nomatch hq)
    (fun q _ => match q with | 0 => tileObl (CC m) (FO m))
    (fun q _ => match q with | 0 => SparseCore.Cfg.VecSplit.of_plain (vecSplit (CC m) (FO m)))
    m ρ main (G (F := F)) (FIN m) (u₀ (F := F)) (sep_elim_left.trans (hu₀ m)) (hmain m ρ) (fq m) (hfin m) (QC m) (fun _ h hz => ⟨h, hz⟩)

/-! ## What the valuation at the end holds -/

theorem mem_uc (b : Ref sig .tc) (h : b.isScoped = false) : (Proc.devRef .tc b : DevRef τ sig) ∈ ucRefs τ sig :=
  Finset.mem_filter.mpr ⟨devRef_mem_tcRefs _, fun h' => Bool.false_ne_true (h.symm.trans h')⟩

/-- The buffers the host operations write. -/
abbrev W1 : List (Ref sig .tc) := [main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_v24, main_v25]
abbrev W2 : List (Ref sig .tc) := [main_v28, main_v29, main_cst_0, main_v30, main_v31]
set_option maxRecDepth 8192 in
theorem ops1_writes : (ops1 : List (HloOp τ sig (Elt F))).Forall fun op => op.writes ⊆ (W1.map (Proc.devRef (τ := τ) .tc)).toFinset :=
  forall_writes_sub_of_map rfl
theorem ops2_writes : (ops2 : List (HloOp τ sig (Elt F))).Forall fun op => op.writes ⊆ (W2.map (Proc.devRef (τ := τ) .tc)).toFinset :=
  forall_writes_sub_of_map rfl

/-- A buffer that @main writes nowhere keeps its launch contents. -/
theorem VF_of_ne (d : Dev nD) (b : Ref sig .tc) (h1 : b ∉ W1) (h2 : b ∉ W2) (h26 : b ≠ main_v26) (h27 : b ≠ main_v27) :
    VF m d b = m ((d : Thread nD τ).loc b) := by
  unfold VF
  rw [after_of_writes_sub ops2 _ ops2_writes h2]
  unfold V3 V2
  rw [Function.update_of_ne (fun e => h27 (Proc.devRef_injective _ e)), Function.update_of_ne (fun e => h26 (Proc.devRef_injective _ e))]
  unfold V1
  rw [after_of_writes_sub ops1 _ ops1_writes h1]

theorem V3_of_ne (d : Dev nD) (b : Ref sig .tc) (h1 : b ∉ W1) (h26 : b ≠ main_v26) (h27 : b ≠ main_v27) :
    V3 m d b = m ((d : Thread nD τ).loc b) := by
  unfold V3 V2
  rw [Function.update_of_ne (fun e => h27 (Proc.devRef_injective _ e)), Function.update_of_ne (fun e => h26 (Proc.devRef_injective _ e))]
  unfold V1
  rw [after_of_writes_sub ops1 _ ops1_writes h1]

/-- The class loss, as @main leaves it. -/
theorem VF_v29 (d : Dev nD) : VF m d main_v29
    = Host.divf (shapeCast S_ (bceV (V2b m) d) shapeCasts_S1x1_S_) (m ((d : Thread nD τ).loc main_arg6)) := by
  unfold VF
  after_results
  rw [V3_of_ne m d main_arg6 (by decide) (by decide) (by decide), show V3 m d main_v27 = bceV (V2b m) d from by unfold V3; exact Function.update_self (f := V2 m d) ..]
  rfl

/-- The box loss, as @main leaves it. -/
theorem VF_v31 (d : Dev nD) : VF m d main_v31
    = Host.divf (Host.reduceAdd (OUT (CC m d)) (constant S_ .f32 0x00000000#32) reducesTo_S32x16_S_d0_1 h_S_) (m ((d : Thread nD τ).loc main_arg6)) := by
  unfold VF
  after_results
  rw [V3_of_ne m d main_arg6 (by decide) (by decide) (by decide), show V3 m d main_v26 = OUT (CC m d) from by
    unfold V3; rw [Function.update_of_ne (by decide)]; unfold V2; exact Function.update_self (f := V1 m d) ..]

end Cert.Proof.Det

end
-- ==== Proof.Frames.lean ====
/-
  The kernel's run read at its results and its arguments, and the frame it gives.
-/
module

public import proofs.«01_k».proof.Proof.Main

@[expose] public section

noncomputable section

namespace Cert.Proof.Det

open Cert.KernelIdeal Cert.KernelIdeal.Gen
open Idealize.ShloMosaic Idealize.ShloMosaic.TcCoe Idealize.SL.Sem

section

variable {F : FTy → Type} [FloatOps F] [Named F] [∀ e, Nonempty (Elt F e)]
variable (m : (ℓ : Loc nD τ sig) → Buf (Elt F) ℓ) (ρ : Dev nD → PrngReg)

/-- The run, read at the results and the arguments. -/
theorem run_vals : θ_run (Cert.KernelIdeal.defs (F := F)) (Cert.KernelIdeal.threads (F := F)) ⟨m, fun _ => 0, ρ⟩ (fun r => (∀ c : Dev nD,
      r.2.mem ((c.tc : Thread nD τ).loc main_v29) = VF m c main_v29
      ∧ r.2.mem ((c.tc : Thread nD τ).loc main_v31) = VF m c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.KernelIdeal.defs _ _).mono (fun r h => ⟨fun c =>
    ⟨h.1 c _ (mem_uc main_v29 (by decide)), h.1 c _ (mem_uc main_v31 (by decide)),
      (h.1 c _ (mem_uc main_arg0 (by decide))).trans (VF_of_ne m c main_arg0 (by decide) (by decide) (by decide) (by decide)),
      (h.1 c _ (mem_uc main_arg1 (by decide))).trans (VF_of_ne m c main_arg1 (by decide) (by decide) (by decide) (by decide)),
      (h.1 c _ (mem_uc main_arg2 (by decide))).trans (VF_of_ne m c main_arg2 (by decide) (by decide) (by decide) (by decide)),
      (h.1 c _ (mem_uc main_arg3 (by decide))).trans (VF_of_ne m c main_arg3 (by decide) (by decide) (by decide) (by decide)),
      (h.1 c _ (mem_uc main_arg4 (by decide))).trans (VF_of_ne m c main_arg4 (by decide) (by decide) (by decide) (by decide)),
      (h.1 c _ (mem_uc main_arg5 (by decide))).trans (VF_of_ne m c main_arg5 (by decide) (by decide) (by decide) (by decide)),
      (h.1 c _ (mem_uc main_arg6 (by decide))).trans (VF_of_ne m c main_arg6 (by decide) (by decide) (by decide) (by decide))⟩, h.2⟩)
    (run_main m ρ)

/-- The frame, at any interpretation of the floats. -/
theorem frame_any : θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.KernelIdeal.defs _ _).mono (fun r h => ⟨fun c => (h.1 c).2.2, h.2⟩) (run_vals m ρ)

end

/-- `Cert.quiescent_KernelIdeal`. -/
theorem frame_ideal : Cert.quiescent_KernelIdeal := fun m ρ _ => frame_any (F := Ideal) m ρ

end Cert.Proof.Det

end
-- ==== Proof.KFrames.lean ====
/-
  The kernel's run read at its results and its arguments, and the frame it gives.
-/
module

public import proofs.«01_k».proof.Proof.KMain

@[expose] public section

noncomputable section

namespace Cert.Proof.DetK

open Cert.Kernel Cert.Kernel.Gen
open Idealize.ShloMosaic Idealize.ShloMosaic.TcCoe Idealize.SL.Sem

section

variable {F : FTy → Type} [FloatOps F] [∀ e, Nonempty (Elt F e)]
variable (m : (ℓ : Loc nD τ sig) → Buf (Elt F) ℓ) (ρ : Dev nD → PrngReg)

/-- The run, read at the results and the arguments. -/
theorem run_vals : θ_run (Cert.Kernel.defs (F := F)) (Cert.Kernel.threads (F := F)) ⟨m, fun _ => 0, ρ⟩ (fun r => (∀ c : Dev nD,
      r.2.mem ((c.tc : Thread nD τ).loc main_v29) = VF m c main_v29
      ∧ r.2.mem ((c.tc : Thread nD τ).loc main_v31) = VF m c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.Kernel.defs _ _).mono (fun r h => ⟨fun c =>
    ⟨h.1 c _ (mem_uc main_v29 (by decide)), h.1 c _ (mem_uc main_v31 (by decide)),
      (h.1 c _ (mem_uc main_arg0 (by decide))).trans (VF_of_ne m c main_arg0 (by decide) (by decide) (by decide) (by decide)),
      (h.1 c _ (mem_uc main_arg1 (by decide))).trans (VF_of_ne m c main_arg1 (by decide) (by decide) (by decide) (by decide)),
      (h.1 c _ (mem_uc main_arg2 (by decide))).trans (VF_of_ne m c main_arg2 (by decide) (by decide) (by decide) (by decide)),
      (h.1 c _ (mem_uc main_arg3 (by decide))).trans (VF_of_ne m c main_arg3 (by decide) (by decide) (by decide) (by decide)),
      (h.1 c _ (mem_uc main_arg4 (by decide))).trans (VF_of_ne m c main_arg4 (by decide) (by decide) (by decide) (by decide)),
      (h.1 c _ (mem_uc main_arg5 (by decide))).trans (VF_of_ne m c main_arg5 (by decide) (by decide) (by decide) (by decide)),
      (h.1 c _ (mem_uc main_arg6 (by decide))).trans (VF_of_ne m c main_arg6 (by decide) (by decide) (by decide) (by decide))⟩, h.2⟩)
    (run_main m ρ)

/-- The frame, at any interpretation of the floats. -/
theorem frame_any : θ_run (Cert.Kernel.defs (F := F)) (Cert.Kernel.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.Kernel.defs _ _).mono (fun r h => ⟨fun c => (h.1 c).2.2, h.2⟩) (run_vals m ρ)

end

/-- `Cert.quiescent_Kernel`. -/
theorem frame_kernel : Cert.quiescent_Kernel := fun m ρ _ => frame_any (F := Bits) m ρ

end Cert.Proof.DetK

end
-- ==== Proof.Scalar.lean ====
/-
  The scalar identities behind the two losses, over the extended reals.  One box's loss as the kernel computes it
  (`kLoss`: the arctangent's polynomial nested, the centre distance and the diagonal both four times their size) is
  one box's loss as the reference states it (`rLoss`); a box of zeros with weight zero adds nothing; and the kernel's
  softplus, by powers of two, is the reference's.
-/
module

public import Idealize.ShloMosaic.PureOps.Ideal.Laws
public import Idealize.ShloMosaic.Lib.IdealHost

@[expose] public section

noncomputable section

namespace Cert.Proof.Det

open Idealize.ShloMosaic

/-! ## The constants -/

abbrev cEps : EReal := Ideal.ofBits .f32 869711765#32
abbrev cEps4 : EReal := Ideal.ofBits .f32 886488981#32
abbrev cFour : EReal := Ideal.ofBits .f32 1082130432#32
abbrev cTwo : EReal := Ideal.ofBits .f32 1073741824#32
abbrev cQ : EReal := Ideal.ofBits .f32 1053786491#32
abbrev cHalfPi : EReal := Ideal.ofBits .f32 1070141403#32
abbrev a1 : EReal := Ideal.ofBits .f32 3198855785#32
abbrev a2 : EReal := Ideal.ofBits .f32 1045216325#32
abbrev a3 : EReal := Ideal.ofBits .f32 3188819344#32
abbrev a4 : EReal := Ideal.ofBits .f32 1037727835#32
abbrev a5 : EReal := Ideal.ofBits .f32 3181036524#32
abbrev a6 : EReal := Ideal.ofBits .f32 1026638983#32
abbrev a7 : EReal := Ideal.ofBits .f32 3162928373#32
abbrev a8 : EReal := Ideal.ofBits .f32 994063253#32

theorem four_eq : cFour = ((4 : ℝ) : EReal) := by
  simp [Ideal.ofBits, Ideal.ieee, -EReal.coe_mul]; norm_num
theorem two_eq : cTwo = ((2 : ℝ) : EReal) := by
  simp [Ideal.ofBits, Ideal.ieee, -EReal.coe_mul]; norm_num

/-- A quarter of the diagonal's guard is the guard. -/
theorem eps4_eq : cEps4 = cFour * cEps := by
  rw [four_eq]
  simp only [Ideal.ofBits, Ideal.ieee]
  simp [-EReal.coe_mul]
  rw [← EReal.coe_mul]
  congr 1
  norm_num

theorem a1_real : ∃ r : ℝ, a1 = (r : EReal) := by
  refine ⟨-(2 ^ 23 + 2796137 : ℕ) * (2 : ℝ) ^ ((125 : ℤ) - 127 - 23), ?_⟩
  simp [Ideal.ofBits, Ideal.ieee, -EReal.coe_mul, -EReal.coe_neg]
theorem a2_real : ∃ r : ℝ, a2 = (r : EReal) := by simp [Ideal.ofBits, Ideal.ieee, -EReal.coe_mul, -EReal.coe_neg]
theorem a3_real : ∃ r : ℝ, a3 = (r : EReal) := by simp [Ideal.ofBits, Ideal.ieee, -EReal.coe_mul, -EReal.coe_neg]
theorem a4_real : ∃ r : ℝ, a4 = (r : EReal) := by simp [Ideal.ofBits, Ideal.ieee, -EReal.coe_mul, -EReal.coe_neg]
theorem a5_real : ∃ r : ℝ, a5 = (r : EReal) := by simp [Ideal.ofBits, Ideal.ieee, -EReal.coe_mul, -EReal.coe_neg]
theorem a6_real : ∃ r : ℝ, a6 = (r : EReal) := by simp [Ideal.ofBits, Ideal.ieee, -EReal.coe_mul, -EReal.coe_neg]
theorem a7_real : ∃ r : ℝ, a7 = (r : EReal) := by simp [Ideal.ofBits, Ideal.ieee, -EReal.coe_mul, -EReal.coe_neg]
theorem a8_real : ∃ r : ℝ, 0 < r ∧ a8 = (r : EReal) := by
  refine ⟨(2 ^ 23 + 4207509 : ℕ) * (2 : ℝ) ^ ((118 : ℤ) - 127 - 23), by positivity, ?_⟩
  simp [Ideal.ofBits, Ideal.ieee, -EReal.coe_mul, -EReal.coe_neg]

/-! ## The arctangent's polynomial -/

/-- Nested, as the kernel computes it. -/
def kOdd (u : EReal) : EReal :=
  u * ((((((((a8 * (u * u) + a7) * (u * u) + a6) * (u * u) + a5) * (u * u) + a4) * (u * u) + a3) * (u * u) + a2)
    * (u * u) + a1) * (u * u) + 1)

/-- As a sum of odd powers. -/
def rOdd (u : EReal) : EReal :=
  u + a1 * (u * u * u) + a2 * (u * (u * u * (u * u))) + a3 * (u * (u * u) * (u * u * (u * u)))
    + a4 * (u * (u * u * (u * u) * (u * u * (u * u)))) + a5 * (u * (u * u) * (u * u * (u * u) * (u * u * (u * u))))
    + a6 * (u * (u * u * (u * u)) * (u * u * (u * u) * (u * u * (u * u))))
    + a7 * (u * (u * u) * (u * u * (u * u)) * (u * u * (u * u) * (u * u * (u * u))))
    + a8 * (u * (u * u * (u * u) * (u * u * (u * u)) * (u * u * (u * u) * (u * u * (u * u)))))

theorem odd_eq {u : EReal} (hu : u ≠ ⊤) : kOdd u = rOdd u := by
  obtain ⟨r1, h1⟩ := a1_real
  obtain ⟨r2, h2⟩ := a2_real
  obtain ⟨r3, h3⟩ := a3_real
  obtain ⟨r4, h4⟩ := a4_real
  obtain ⟨r5, h5⟩ := a5_real
  obtain ⟨r6, h6⟩ := a6_real
  obtain ⟨r7, h7⟩ := a7_real
  obtain ⟨r8, h8', h8⟩ := a8_real
  unfold kOdd rOdd
  rw [h1, h2, h3, h4, h5, h6, h7, h8]
  induction u with
  | top => exact absurd rfl hu
  | bot =>
    have one : (1 : EReal) = ((1 : ℝ) : EReal) := rfl
    simp only [EReal.bot_mul_bot, EReal.coe_mul_top_of_pos h8', EReal.top_add_coe, EReal.top_mul_top, one,
      EReal.bot_mul_top, EReal.bot_add]
  | coe x =>
    have one : (1 : EReal) = ((1 : ℝ) : EReal) := rfl
    rw [one]
    simp only [← EReal.coe_mul, ← EReal.coe_add]
    congr 1
    ring

def kAtan (x : EReal) : EReal := if x ≤ 1 then kOdd (min x 1) else cHalfPi - kOdd (Ideal.div 1 (max x 1))
def rAtan (x : EReal) : EReal := if x ≤ 1 then rOdd x else cHalfPi - rOdd (Ideal.div 1 x)

theorem atan_eq (x : EReal) : kAtan x = rAtan x := by
  unfold kAtan rAtan
  split_ifs with h
  · rw [min_eq_left h, odd_eq (ne_top_of_le_ne_top (EReal.coe_ne_top 1) h)]
  · have h' : 1 < x := not_le.mp h
    have h0 : x ≠ 0 := (lt_trans zero_lt_one h').ne'
    rw [max_eq_left h'.le, odd_eq]
    unfold Ideal.div
    rw [if_neg h0, one_mul]
    induction x with
    | top => simp
    | bot => simp
    | coe r => rw [← EReal.coe_inv]; exact EReal.coe_ne_top _

/-! ## The scale of four -/

theorem four_nonneg : (0 : EReal) ≤ cFour := by rw [four_eq]; exact EReal.coe_nonneg.mpr (by norm_num)
theorem four_ne_top : cFour ≠ ⊤ := by rw [four_eq]; exact EReal.coe_ne_top _

theorem four_mul_add (a b : EReal) : cFour * (a + b) = cFour * a + cFour * b :=
  EReal.left_distrib_of_nonneg_of_ne_top four_nonneg four_ne_top a b

theorem half_eq (a : EReal) : Ideal.div a cTwo = a * ((2⁻¹ : ℝ) : EReal) := by
  unfold Ideal.div
  rw [two_eq, if_neg (by norm_num), ← EReal.coe_inv]

theorem half_sub (a b : EReal) : Ideal.div a cTwo - Ideal.div b cTwo = (a - b) * ((2⁻¹ : ℝ) : EReal) := by
  rw [half_eq, half_eq, sub_eq_add_neg, sub_eq_add_neg,
    EReal.right_distrib_of_nonneg_of_ne_top (EReal.coe_nonneg.mpr (by norm_num)) (EReal.coe_ne_top _), EReal.neg_mul]

theorem four_half_sq (d : EReal) :
    cFour * ((d * ((2⁻¹ : ℝ) : EReal)) * (d * ((2⁻¹ : ℝ) : EReal))) = d * d := by
  have e : cFour * ((d * ((2⁻¹ : ℝ) : EReal)) * (d * ((2⁻¹ : ℝ) : EReal)))
      = (cFour * (((2⁻¹ : ℝ) : EReal) * ((2⁻¹ : ℝ) : EReal))) * (d * d) := by ac_rfl
  rw [e, four_eq, ← EReal.coe_mul, ← EReal.coe_mul, show (4 * (2⁻¹ * 2⁻¹) : ℝ) = 1 by norm_num, EReal.coe_one, one_mul]

/-- A quotient of two quantities, both four times as large, is the quotient. -/
theorem div_four (a b : EReal) : Ideal.div (cFour * a) (cFour * b) = Ideal.div a b := by
  unfold Ideal.div
  have h4 : cFour ≠ 0 := by rw [four_eq]; norm_num
  have hp : (0 : EReal) < cFour := lt_of_le_of_ne four_nonneg h4.symm
  by_cases hb : b = 0
  · subst hb
    rw [mul_zero, if_pos rfl, if_pos rfl]
    by_cases ha : 0 < a
    · rw [if_pos ha, if_pos (EReal.mul_pos hp ha)]
    · rw [if_neg ha, if_neg]
      intro h
      rcases EReal.mul_pos_iff.mp h with ⟨_, h⟩ | ⟨h, _⟩
      · exact ha h
      · exact absurd hp (not_lt.mpr h.le)
  · rw [if_neg hb, if_neg (mul_ne_zero h4 hb), EReal.mul_inv]
    have e : cFour * a * (cFour⁻¹ * b⁻¹) = (cFour * cFour⁻¹) * (a * b⁻¹) := by ac_rfl
    rw [e, four_eq, ← EReal.coe_inv, ← EReal.coe_mul, mul_inv_cancel₀ (by norm_num), EReal.coe_one, one_mul]

/-- The centre distance over the diagonal. -/
theorem cent_eq (p2 p0 t2 t0 p3 p1 t3 t1 d : EReal) :
    Ideal.div ((p2 + p0 - (t2 + t0)) * (p2 + p0 - (t2 + t0)) + (p3 + p1 - (t3 + t1)) * (p3 + p1 - (t3 + t1)))
      (cFour * d + cEps4)
    = Ideal.div
        ((Ideal.div (p2 + p0) cTwo - Ideal.div (t2 + t0) cTwo) * (Ideal.div (p2 + p0) cTwo - Ideal.div (t2 + t0) cTwo)
          + (Ideal.div (p3 + p1) cTwo - Ideal.div (t3 + t1) cTwo) * (Ideal.div (p3 + p1) cTwo - Ideal.div (t3 + t1) cTwo))
        (d + cEps) := by
  rw [eps4_eq, ← four_mul_add, half_sub, half_sub, ← div_four (_ + _) (d + cEps), four_mul_add (_ * _) (_ * _),
    four_half_sq, four_half_sq]

/-! ## One box -/

/-- One box's loss, as the kernel computes it. -/
def kLoss (x0 x1 x2 x3 x4 x5 x6 x7 w : EReal) : EReal :=
  (1 - (Ideal.div (max (min x2 x6 - max x0 x4) 0 * max (min x3 x7 - max x1 x5) 0)
      ((x2 - x0) * (x3 - x1) + (x6 - x4) * (x7 - x5) - max (min x2 x6 - max x0 x4) 0 * max (min x3 x7 - max x1 x5) 0
        + cEps)
    - Ideal.div ((x2 + x0 - (x6 + x4)) * (x2 + x0 - (x6 + x4)) + (x3 + x1 - (x7 + x5)) * (x3 + x1 - (x7 + x5)))
      (cFour * ((max x2 x6 - min x0 x4) * (max x2 x6 - min x0 x4)
        + (max x3 x7 - min x1 x5) * (max x3 x7 - min x1 x5)) + cEps4)
    - Ideal.div (cQ * (kAtan (Ideal.div (x2 - x0) (x3 - x1 + cEps)) - kAtan (Ideal.div (x6 - x4) (x7 - x5 + cEps)))
        * (kAtan (Ideal.div (x2 - x0) (x3 - x1 + cEps)) - kAtan (Ideal.div (x6 - x4) (x7 - x5 + cEps))))
      (cQ * (kAtan (Ideal.div (x2 - x0) (x3 - x1 + cEps)) - kAtan (Ideal.div (x6 - x4) (x7 - x5 + cEps)))
        * (kAtan (Ideal.div (x2 - x0) (x3 - x1 + cEps)) - kAtan (Ideal.div (x6 - x4) (x7 - x5 + cEps)))
        - Ideal.div (max (min x2 x6 - max x0 x4) 0 * max (min x3 x7 - max x1 x5) 0)
          ((x2 - x0) * (x3 - x1) + (x6 - x4) * (x7 - x5)
            - max (min x2 x6 - max x0 x4) 0 * max (min x3 x7 - max x1 x5) 0 + cEps)
        + 1 + cEps)
      * (cQ * (kAtan (Ideal.div (x2 - x0) (x3 - x1 + cEps)) - kAtan (Ideal.div (x6 - x4) (x7 - x5 + cEps)))
        * (kAtan (Ideal.div (x2 - x0) (x3 - x1 + cEps)) - kAtan (Ideal.div (x6 - x4) (x7 - x5 + cEps)))))) * w

/-- The complete intersection over union, as the reference states it, of a difference `A` of angles. -/
def rCiou (x0 x1 x2 x3 x4 x5 x6 x7 A : EReal) : EReal :=
  Ideal.div (max 0 (min x2 x6 - max x0 x4) * max 0 (min x3 x7 - max x1 x5))
      ((x2 - x0) * (x3 - x1) + (x6 - x4) * (x7 - x5) - max 0 (min x2 x6 - max x0 x4) * max 0 (min x3 x7 - max x1 x5)
        + cEps)
    - Ideal.div
        ((Ideal.div (x2 + x0) cTwo - Ideal.div (x6 + x4) cTwo) * (Ideal.div (x2 + x0) cTwo - Ideal.div (x6 + x4) cTwo)
          + (Ideal.div (x3 + x1) cTwo - Ideal.div (x7 + x5) cTwo) * (Ideal.div (x3 + x1) cTwo - Ideal.div (x7 + x5) cTwo))
      ((max x2 x6 - min x0 x4) * (max x2 x6 - min x0 x4)
        + (max x3 x7 - min x1 x5) * (max x3 x7 - min x1 x5) + cEps)
    - Ideal.div (cQ * (A * A))
      (cQ * (A * A)
        - Ideal.div (max 0 (min x2 x6 - max x0 x4) * max 0 (min x3 x7 - max x1 x5))
          ((x2 - x0) * (x3 - x1) + (x6 - x4) * (x7 - x5)
            - max 0 (min x2 x6 - max x0 x4) * max 0 (min x3 x7 - max x1 x5) + cEps)
        + 1 + cEps)
      * (cQ * (A * A))

/-- One box's loss, as the reference states it. -/
def rLoss (x0 x1 x2 x3 x4 x5 x6 x7 v b : EReal) : EReal :=
  (1 - rCiou x0 x1 x2 x3 x4 x5 x6 x7
    (rAtan (Ideal.div (x2 - x0) (x3 - x1 + cEps)) - rAtan (Ideal.div (x6 - x4) (x7 - x5 + cEps)))) * v * b

theorem loss_eq (x0 x1 x2 x3 x4 x5 x6 x7 v b : EReal) :
    kLoss x0 x1 x2 x3 x4 x5 x6 x7 (v * b) = rLoss x0 x1 x2 x3 x4 x5 x6 x7 v b := by
  unfold kLoss rLoss rCiou
  rw [cent_eq, atan_eq, atan_eq]
  generalize rAtan (Ideal.div (x2 - x0) (x3 - x1 + cEps)) - rAtan (Ideal.div (x6 - x4) (x7 - x5 + cEps)) = A
  rw [mul_assoc cQ A A, max_comm _ (0 : EReal), max_comm _ (0 : EReal), mul_assoc (1 - _) v b]

/-- A box of weight zero adds nothing. -/
theorem loss_zero (x0 x1 x2 x3 x4 x5 x6 x7 : EReal) : kLoss x0 x1 x2 x3 x4 x5 x6 x7 0 = 0 := by
  unfold kLoss; rw [mul_zero]

/-! ## The softplus -/

theorem softplus_eq (p : EReal) :
    Ideal.log (1 + Ideal.exp2 (p * (((Real.log 2)⁻¹ : ℝ) : EReal))) * (((Real.log 2)⁻¹ : ℝ) : EReal)
      * ((Real.log 2 : ℝ) : EReal)
    = max p 0 + Ideal.log1p (Ideal.exp (-(max p (-p)))) := by
  have hl : (0 : ℝ) < Real.log 2 := Real.log_pos (by norm_num)
  have hi : (0 : ℝ) < (Real.log 2)⁻¹ := inv_pos.mpr hl
  have one : (1 : EReal) = ((1 : ℝ) : EReal) := rfl
  have zero : (0 : EReal) = ((0 : ℝ) : EReal) := rfl
  have log1 : Ideal.log 1 = 0 := by
    rw [one]; show (if (1 : ℝ) ≤ 0 then (⊥ : EReal) else ((Real.log 1 : ℝ) : EReal)) = 0
    rw [if_neg (by norm_num), Real.log_one]; rfl
  induction p with
  | bot =>
    rw [EReal.bot_mul_coe_of_pos hi]
    show Ideal.log (1 + 0) * _ * _ = max ⊥ 0 + Ideal.log (1 + Ideal.exp (-(max ⊥ (-⊥))))
    rw [add_zero, log1, zero_mul, zero_mul, EReal.neg_bot, max_eq_right bot_le, max_eq_right bot_le, EReal.neg_top]
    show (0 : EReal) = 0 + Ideal.log (1 + 0)
    rw [add_zero, log1, add_zero]
  | top =>
    rw [EReal.top_mul_coe_of_pos hi]
    show Ideal.log (1 + ⊤) * _ * _ = max ⊤ 0 + Ideal.log (1 + Ideal.exp (-(max ⊤ (-⊤))))
    rw [EReal.neg_top, max_eq_left le_top, max_eq_left le_top, EReal.neg_top]
    show Ideal.log (1 + ⊤) * _ * _ = ⊤ + Ideal.log (1 + 0)
    rw [add_zero, log1, add_zero, one, EReal.coe_add_top]
    show (⊤ : EReal) * _ * _ = ⊤
    rw [EReal.top_mul_coe_of_pos hi, EReal.top_mul_coe_of_pos hl]
  | coe x =>
    have hexp : Ideal.exp2 ((x : EReal) * (((Real.log 2)⁻¹ : ℝ) : EReal)) = ((Real.exp x : ℝ) : EReal) := by
      rw [← EReal.coe_mul]
      show ((Real.rpow 2 (x * (Real.log 2)⁻¹) : ℝ) : EReal) = _
      congr 1
      show (2 : ℝ) ^ (x * (Real.log 2)⁻¹) = _
      rw [Real.rpow_def_of_pos (by norm_num)]
      congr 1
      field_simp
    have hlog : ∀ y : ℝ, Ideal.log (((1 : ℝ) : EReal) + ((Real.exp y : ℝ) : EReal))
        = ((Real.log (1 + Real.exp y) : ℝ) : EReal) := by
      intro y
      rw [← EReal.coe_add]
      show (if 1 + Real.exp y ≤ 0 then (⊥ : EReal) else _) = _
      rw [if_neg (not_le.mpr (by positivity))]
    rw [hexp, one, hlog, ← EReal.coe_mul, ← EReal.coe_mul, mul_assoc, inv_mul_cancel₀ hl.ne', mul_one, zero]
    rw [← EReal.coe_neg, ← EReal.coe_strictMono.monotone.map_max, ← EReal.coe_strictMono.monotone.map_max,
      ← EReal.coe_neg]
    show _ = _ + Ideal.log (((1 : ℝ) : EReal) + ((Real.exp (-(max x (-x))) : ℝ) : EReal))
    rw [hlog, ← EReal.coe_add]
    congr 1
    rcases le_total 0 x with h | h
    · rw [max_eq_left h, max_eq_left (by linarith)]
      have e : 1 + Real.exp x = Real.exp x * (1 + Real.exp (-x)) := by
        rw [mul_add, ← Real.exp_add, add_neg_cancel, Real.exp_zero]; ring
      rw [e, Real.log_mul (Real.exp_ne_zero _) (by positivity), Real.log_exp]
    · rw [max_eq_right h, max_eq_right (by linarith), neg_neg, zero_add]

/-- One class's loss, as the reference states it. -/
def bce (p t : EReal) : EReal := max p 0 - p * t + Ideal.log1p (Ideal.exp (-(max p (-p))))

/-- One class's loss, both ways. -/
theorem bce_eq (p t : EReal) :
    Ideal.log (1 + Ideal.exp2 (p * (((Real.log 2)⁻¹ : ℝ) : EReal))) * (((Real.log 2)⁻¹ : ℝ) : EReal)
      * ((Real.log 2 : ℝ) : EReal) - p * t
    = bce p t := by
  unfold bce
  rw [softplus_eq, sub_eq_add_neg, sub_eq_add_neg]; ac_rfl

end Cert.Proof.Det

end
-- ==== Proof.Box.lean ====
/-
  The kernel's box sums at the extended reals: one lane of one trip adds one box's loss, the sixteen lanes of all the
  trips of all the subcores together add the loss of every box of the padded components.
-/
module

public import proofs.«01_k».proof.Proof.Main
public import proofs.«01_k».proof.Proof.Scalar
public import Idealize.ShloMosaic.Lib.Pointwise

@[expose] public section

noncomputable section

namespace Cert.Proof.Det

open Cert.KernelIdeal Cert.KernelIdeal.Gen
open Idealize.ShloMosaic
open scoped BigOperators

theorem trip_apply (B : S19008.Idx → Ideal .f32) (t : Fin k0_t1_loop.trips) (a : Vec Ideal S16 .f32) (l : Fin 16) :
    trip B t a (ix1 l) = a (ix1 l) + kLoss (lanes B t 0 (ix1 l)) (lanes B t 1 (ix1 l)) (lanes B t 2 (ix1 l))
      (lanes B t 3 (ix1 l)) (lanes B t 4 (ix1 l)) (lanes B t 5 (ix1 l)) (lanes B t 6 (ix1 l)) (lanes B t 7 (ix1 l))
      (lanes B t 8 (ix1 l)) := by
  unfold trip
  generalize lanes B t 0 = x0
  generalize lanes B t 1 = x1
  generalize lanes B t 2 = x2
  generalize lanes B t 3 = x3
  generalize lanes B t 4 = x4
  generalize lanes B t 5 = x5
  generalize lanes B t 6 = x6
  generalize lanes B t 7 = x7
  generalize lanes B t 8 = x8
  unfold_payloads
  pointwise []
  unfold kLoss kAtan kOdd
  rfl

theorem trips_eq : k0_t1_loop.trips = 132 := by decide

/-- Lane `l` of trip `t`, component `k`, of subcore `w`. -/
theorem lanes_apply (C : S608256.Idx → Ideal .f32) (w : Fin 32) (t : Fin k0_t1_loop.trips) (k : Fin 9) (l : Fin 16)
    (h : 67584 * k.val + (2112 * w.val + (16 * t.val + l.val)) < 608256) :
    lanes (BUF C w) t k (ix1 l) = C (ixC ⟨67584 * k.val + (2112 * w.val + (16 * t.val + l.val)), h⟩) := by
  have ht : t.val < 132 := lt_of_lt_of_eq t.isLt trips_eq
  have hl := l.isLt
  show BUF C w ((Rect.unit (s := S19008) (k0_off2 t (BitVec.ofNat 32 (2112 * k.val))) S16.size (k0_off2_inb t k)).toLoadRect.idx (ix1 l)) = _
  unfold BUF
  have e : (((Rect.unit (s := S19008) (k0_off2 t (BitVec.ofNat 32 (2112 * k.val))) S16.size (k0_off2_inb t k)).toLoadRect.idx (ix1 l)) 0).val
      = 2112 * k.val + 16 * t.val + l.val := by
    show k0_off2 t (BitVec.ofNat 32 (2112 * k.val)) 0 + 1 * l.val = _
    rw [k0_off2_eq]
    show 2112 * k.val + 16 * t.val + 1 * l.val = _
    omega
  refine congrArg C (congrArg ixC (Fin.ext ?_))
  show 67584 * (_ / 2112) + 2112 * w.val + _ % 2112 = _
  rw [e]
  show _ = 67584 * k.val + (2112 * w.val + (16 * t.val + l.val))
  omega

/-- The loss of the box at place `n` of the padded components. -/
def boxAt (C : S608256.Idx → Ideal .f32) (n : ℕ) : EReal :=
  if h : n < 67584 then
    kLoss (C (ixC ⟨67584 * 0 + n, by omega⟩)) (C (ixC ⟨67584 * 1 + n, by omega⟩)) (C (ixC ⟨67584 * 2 + n, by omega⟩))
      (C (ixC ⟨67584 * 3 + n, by omega⟩)) (C (ixC ⟨67584 * 4 + n, by omega⟩)) (C (ixC ⟨67584 * 5 + n, by omega⟩))
      (C (ixC ⟨67584 * 6 + n, by omega⟩)) (C (ixC ⟨67584 * 7 + n, by omega⟩)) (C (ixC ⟨67584 * 8 + n, by omega⟩))
  else 0

theorem accAt_apply (C : S608256.Idx → Ideal .f32) (w : Fin 32) (l : Fin 16) (n : ℕ) (hn : n ≤ 132) :
    accAt (BUF C w) n (ix1 l) = ∑ t ∈ Finset.range n, boxAt C (2112 * w.val + (16 * t + l.val)) := by
  induction n with
  | zero =>
    rw [Finset.sum_range_zero]
    show k0_pay33 (ix1 l) = 0
    unfold_payloads
    pointwise []
  | succ n ih =>
    have hw := w.isLt
    have hl := l.isLt
    have h : n < k0_t1_loop.trips := by rw [trips_eq]; omega
    have hb : 2112 * w.val + (16 * n + l.val) < 67584 := by omega
    rw [Finset.sum_range_succ, ← ih (by omega), show accAt (BUF C w) (n + 1) = trip (BUF C w) ⟨n, h⟩ (accAt (BUF C w) n) from dif_pos h, trip_apply]
    congr 1
    unfold boxAt
    rw [dif_pos hb]
    rw [lanes_apply C w ⟨n, h⟩ 0 l (by show 67584 * 0 + (2112 * w.val + (16 * n + l.val)) < _; omega), lanes_apply C w ⟨n, h⟩ 1 l (by show 67584 * 1 + (2112 * w.val + (16 * n + l.val)) < _; omega),
      lanes_apply C w ⟨n, h⟩ 2 l (by show 67584 * 2 + (2112 * w.val + (16 * n + l.val)) < _; omega), lanes_apply C w ⟨n, h⟩ 3 l (by show 67584 * 3 + (2112 * w.val + (16 * n + l.val)) < _; omega),
      lanes_apply C w ⟨n, h⟩ 4 l (by show 67584 * 4 + (2112 * w.val + (16 * n + l.val)) < _; omega), lanes_apply C w ⟨n, h⟩ 5 l (by show 67584 * 5 + (2112 * w.val + (16 * n + l.val)) < _; omega),
      lanes_apply C w ⟨n, h⟩ 6 l (by show 67584 * 6 + (2112 * w.val + (16 * n + l.val)) < _; omega), lanes_apply C w ⟨n, h⟩ 7 l (by show 67584 * 7 + (2112 * w.val + (16 * n + l.val)) < _; omega),
      lanes_apply C w ⟨n, h⟩ 8 l (by show 67584 * 8 + (2112 * w.val + (16 * n + l.val)) < _; omega)]
    rfl

theorem OUT_apply (C : S608256.Idx → Ideal .f32) (w : Fin 32) (l : Fin 16) :
    OUT C (ix2 w l) = ∑ t ∈ Finset.range 132, boxAt C (2112 * w.val + (16 * t + l.val)) := by
  have e : (ix16 l : S16.Idx) = ix1 l := by funext a; match a with | ⟨0, _⟩ => rfl
  rw [← accAt_apply C w l 132 le_rfl, ← e, ← trips_eq]
  rfl

/-- A sum over blocks is the sum over the whole. -/
theorem sum_blocks (A B : ℕ) (f : ℕ → EReal) :
    ∑ a ∈ Finset.range A, ∑ b ∈ Finset.range B, f (B * a + b) = ∑ n ∈ Finset.range (A * B), f n := by
  induction A with
  | zero => simp
  | succ A ih => rw [Finset.sum_range_succ, ih, Nat.succ_mul, Finset.sum_range_add, Nat.mul_comm B A]

/-- All the lanes of all the subcores: every place of the padded components once. -/
theorem sum_OUT (C : S608256.Idx → Ideal .f32) :
    ∑ w : Fin 32, ∑ l : Fin 16, OUT C (ix2 w l) = ∑ n ∈ Finset.range 67584, boxAt C n := by
  rw [← sum_blocks 32 2112, ← Fin.sum_univ_eq_sum_range (fun a => ∑ b ∈ Finset.range 2112, boxAt C (2112 * a + b)) 32]
  refine Finset.sum_congr rfl fun w _ => ?_
  rw [show (2112 : ℕ) = 132 * 16 from rfl, ← sum_blocks 132 16 (fun b => boxAt C (2112 * w.val + b))]
  simp only [OUT_apply]
  rw [Finset.sum_comm]
  refine Finset.sum_congr rfl fun t _ => ?_
  exact Fin.sum_univ_eq_sum_range (fun l => boxAt C (2112 * w.val + (16 * t + l))) 16

end Cert.Proof.Det

end
-- ==== Proof.Comps.lean ====
/-
  The padded components the host gathers, read at a box: the eight coordinates and the weight of a box of the problem,
  and a zero weight beyond them.
-/
module

public import proofs.«01_k».proof.Proof.Box

@[expose] public section

noncomputable section

namespace Cert.Proof.Det

open Cert.KernelIdeal Cert.KernelIdeal.Gen
open Idealize.ShloMosaic Idealize.ShloMosaic.TcCoe
open Idealize.ShloMosaic.StableHlo
open scoped BigOperators

section Ops

variable {F : FTy → Type} [FloatOps F] [Named F]

/-- The host operations that gather the components, up to the concatenations, -/
abbrev opsA : List (HloOp τ sig (Elt F)) :=
  [ reshape main_arg1 main_v0 (rfl : (.f32 : EltTy) = .f32) shapeCasts_S8x8400x4_S67200x4,
    reshape main_arg3 main_v1 (rfl : (.f32 : EltTy) = .f32) shapeCasts_S8x8400x4_S67200x4,
    reshape main_arg4 main_v2 (rfl : (.i1 : EltTy) = .i1) shapeCasts_S8x8400_S67200,
    unary main_v2 main_v3 (uitofp .f32 : (⟨S67200, .i1⟩ : BufTy).Contents (Elt F) → (⟨S67200, .f32⟩ : BufTy).Contents (Elt F)),
    reshape main_arg5 main_v4 (rfl : (.f32 : EltTy) = .f32) shapeCasts_S8x8400_S67200,
    binary main_v3 main_v4 main_v5 (mulf : (⟨S67200, .f32⟩ : BufTy).Contents (Elt F) → (⟨S67200, .f32⟩ : BufTy).Contents (Elt F) → (⟨S67200, .f32⟩ : BufTy).Contents (Elt F)),
    nullary main_cst (constant S_ .f32 0x00000000#32),
    unary main_cst main_v6 (broadcastInDim S384 ![] bcast_S_S384 : (⟨S_, .f32⟩ : BufTy).Contents (Elt F) → (⟨S384, .f32⟩ : BufTy).Contents (Elt F)),
    unary main_v0 main_v7 ((extractStridedSlice S67200x1 ![0, 0] · slices_S67200x4_S67200x1_0_0) : (⟨S67200x4, .f32⟩ : BufTy).Contents (Elt F) → (⟨S67200x1, .f32⟩ : BufTy).Contents (Elt F)),
    reshape main_v7 main_v8 (rfl : (.f32 : EltTy) = .f32) shapeCasts_S67200x1_S67200,
    unary main_v0 main_v9 ((extractStridedSlice S67200x1 ![0, 1] · slices_S67200x4_S67200x1_0_1) : (⟨S67200x4, .f32⟩ : BufTy).Contents (Elt F) → (⟨S67200x1, .f32⟩ : BufTy).Contents (Elt F)),
    reshape main_v9 main_v10 (rfl : (.f32 : EltTy) = .f32) shapeCasts_S67200x1_S67200,
    unary main_v0 main_v11 ((extractStridedSlice S67200x1 ![0, 2] · slices_S67200x4_S67200x1_0_2) : (⟨S67200x4, .f32⟩ : BufTy).Contents (Elt F) → (⟨S67200x1, .f32⟩ : BufTy).Contents (Elt F)),
    reshape main_v11 main_v12 (rfl : (.f32 : EltTy) = .f32) shapeCasts_S67200x1_S67200,
    unary main_v0 main_v13 ((extractStridedSlice S67200x1 ![0, 3] · slices_S67200x4_S67200x1_0_3) : (⟨S67200x4, .f32⟩ : BufTy).Contents (Elt F) → (⟨S67200x1, .f32⟩ : BufTy).Contents (Elt F)),
    reshape main_v13 main_v14 (rfl : (.f32 : EltTy) = .f32) shapeCasts_S67200x1_S67200,
    unary main_v1 main_v15 ((extractStridedSlice S67200x1 ![0, 0] · slices_S67200x4_S67200x1_0_0) : (⟨S67200x4, .f32⟩ : BufTy).Contents (Elt F) → (⟨S67200x1, .f32⟩ : BufTy).Contents (Elt F)),
    reshape main_v15 main_v16 (rfl : (.f32 : EltTy) = .f32) shapeCasts_S67200x1_S67200,
    unary main_v1 main_v17 ((extractStridedSlice S67200x1 ![0, 1] · slices_S67200x4_S67200x1_0_1) : (⟨S67200x4, .f32⟩ : BufTy).Contents (Elt F) → (⟨S67200x1, .f32⟩ : BufTy).Contents (Elt F)),
    reshape main_v17 main_v18 (rfl : (.f32 : EltTy) = .f32) shapeCasts_S67200x1_S67200,
    unary main_v1 main_v19 ((extractStridedSlice S67200x1 ![0, 2] · slices_S67200x4_S67200x1_0_2) : (⟨S67200x4, .f32⟩ : BufTy).Contents (Elt F) → (⟨S67200x1, .f32⟩ : BufTy).Contents (Elt F)),
    reshape main_v19 main_v20 (rfl : (.f32 : EltTy) = .f32) shapeCasts_S67200x1_S67200,
    unary main_v1 main_v21 ((extractStridedSlice S67200x1 ![0, 3] · slices_S67200x4_S67200x1_0_3) : (⟨S67200x4, .f32⟩ : BufTy).Contents (Elt F) → (⟨S67200x1, .f32⟩ : BufTy).Contents (Elt F)),
    reshape main_v21 main_v22 (rfl : (.f32 : EltTy) = .f32) shapeCasts_S67200x1_S67200 ]

/-- and the concatenations. -/
abbrev opsB : List (HloOp τ sig (Elt F)) :=
  [ nary ![main_v8, main_v6, main_v10, main_v6, main_v12, main_v6, main_v14, main_v6, main_v16, main_v6, main_v18, main_v6, main_v20, main_v6, main_v22, main_v6] main_v23 (fun u => (concatenate S540672 0 [⟨S67200, (u 0 : (⟨S67200, .f32⟩ : BufTy).Contents (Elt F))⟩, ⟨S384, (u 1 : (⟨S384, .f32⟩ : BufTy).Contents (Elt F))⟩, ⟨S67200, (u 2 : (⟨S67200, .f32⟩ : BufTy).Contents (Elt F))⟩, ⟨S384, (u 3 : (⟨S384, .f32⟩ : BufTy).Contents (Elt F))⟩, ⟨S67200, (u 4 : (⟨S67200, .f32⟩ : BufTy).Contents (Elt F))⟩, ⟨S384, (u 5 : (⟨S384, .f32⟩ : BufTy).Contents (Elt F))⟩, ⟨S67200, (u 6 : (⟨S67200, .f32⟩ : BufTy).Contents (Elt F))⟩, ⟨S384, (u 7 : (⟨S384, .f32⟩ : BufTy).Contents (Elt F))⟩, ⟨S67200, (u 8 : (⟨S67200, .f32⟩ : BufTy).Contents (Elt F))⟩, ⟨S384, (u 9 : (⟨S384, .f32⟩ : BufTy).Contents (Elt F))⟩, ⟨S67200, (u 10 : (⟨S67200, .f32⟩ : BufTy).Contents (Elt F))⟩, ⟨S384, (u 11 : (⟨S384, .f32⟩ : BufTy).Contents (Elt F))⟩, ⟨S67200, (u 12 : (⟨S67200, .f32⟩ : BufTy).Contents (Elt F))⟩, ⟨S384, (u 13 : (⟨S384, .f32⟩ : BufTy).Contents (Elt F))⟩, ⟨S67200, (u 14 : (⟨S67200, .f32⟩ : BufTy).Contents (Elt F))⟩, ⟨S384, (u 15 : (⟨S384, .f32⟩ : BufTy).Contents (Elt F))⟩] concatenates_S67200_S384_S67200_S384_S67200_S384_S67200_S384_S67200_S384_S67200_S384_S67200_S384_S67200_S384_S540672_d0 : (⟨S540672, .f32⟩ : BufTy).Contents (Elt F))),
    binary main_v5 main_v6 main_v24 ((fun a b => concatenate S67584 0 [⟨S67200, a⟩, ⟨S384, b⟩] concatenates_S67200_S384_S67584_d0) : (⟨S67200, .f32⟩ : BufTy).Contents (Elt F) → (⟨S384, .f32⟩ : BufTy).Contents (Elt F) → (⟨S67584, .f32⟩ : BufTy).Contents (Elt F)),
    binary main_v23 main_v24 main_v25 ((fun a b => concatenate S608256 0 [⟨S540672, a⟩, ⟨S67584, b⟩] concatenates_S540672_S67584_S608256_d0) : (⟨S540672, .f32⟩ : BufTy).Contents (Elt F) → (⟨S67584, .f32⟩ : BufTy).Contents (Elt F) → (⟨S608256, .f32⟩ : BufTy).Contents (Elt F)) ]

set_option maxRecDepth 8192 in
theorem ops1_cut (V : Valuation τ sig (Elt F)) : after ops1 V = after opsB (after opsA V) := rfl

end Ops

/-- A rank-one concatenation read at an index: its piece `k`, past the pieces before it. -/
theorem cat1_apply {N M : ℕ} (xs : List ((s : Shape) × (s.Idx → EReal))) (h : Shape.Concatenates (xs.map (·.1)) (⟨1, ![N]⟩ : Shape) 0)
    (k : ℕ) (hk : k < xs.length) (x : (⟨1, ![M]⟩ : Shape).Idx → EReal) (hxk : xs[k] = ⟨⟨1, ![M]⟩, x⟩) (pre : ℕ)
    (hpre : (((xs.take k).map (·.1)).map fun s : Shape => if h : s.rank = 1 then s.size ((0 : Fin 1).cast h.symm) else 0).sum = pre)
    (n : Fin N) (i : Fin M) (ha : n.val = pre + i.val) : concatenate (⟨1, ![N]⟩ : Shape) 0 xs h (ix1 n) = x (ix1 i) := by
  refine concatenate_apply_piece (t := (⟨1, ![N]⟩ : Shape)) 0 xs h (ix1 n) k hk _ x hxk rfl pre hpre (ix1 i) ?_ ha.symm
  intro b hb
  exact absurd (Subsingleton.elim (α := Fin 1) _ _) hb

/-- The eight coordinates, each with its padding, as pieces, -/
def pieces8 (x0 x1 x2 x3 x4 x5 x6 x7 : S67200.Idx → EReal) (z : S384.Idx → EReal) : List ((s : Shape) × (s.Idx → EReal)) :=
  [⟨S67200, x0⟩, ⟨S384, z⟩, ⟨S67200, x1⟩, ⟨S384, z⟩, ⟨S67200, x2⟩, ⟨S384, z⟩,
    ⟨S67200, x3⟩, ⟨S384, z⟩, ⟨S67200, x4⟩, ⟨S384, z⟩, ⟨S67200, x5⟩, ⟨S384, z⟩, ⟨S67200, x6⟩, ⟨S384, z⟩, ⟨S67200, x7⟩, ⟨S384, z⟩]
/-- and one after another. -/
def cat8 (x0 x1 x2 x3 x4 x5 x6 x7 : S67200.Idx → EReal) (z : S384.Idx → EReal) : S540672.Idx → EReal :=
  concatenate S540672 0 (pieces8 x0 x1 x2 x3 x4 x5 x6 x7 z)
    concatenates_S67200_S384_S67200_S384_S67200_S384_S67200_S384_S67200_S384_S67200_S384_S67200_S384_S67200_S384_S540672_d0
/-- The weight with its padding. -/
def catW (w : S67200.Idx → EReal) (z : S384.Idx → EReal) : S67584.Idx → EReal :=
  concatenate S67584 0 [⟨S67200, w⟩, ⟨S384, z⟩] concatenates_S67200_S384_S67584_d0
/-- All nine. -/
def cat9 (c : S540672.Idx → EReal) (w : S67584.Idx → EReal) : S608256.Idx → EReal :=
  concatenate S608256 0 [⟨S540672, c⟩, ⟨S67584, w⟩] concatenates_S540672_S67584_S608256_d0

section Cat

variable (x0 x1 x2 x3 x4 x5 x6 x7 w : S67200.Idx → EReal) (z : S384.Idx → EReal)

theorem cat8_0 (n : Fin 540672) (i : Fin 67200) (h : n.val = 67584 * 0 + i.val) : cat8 x0 x1 x2 x3 x4 x5 x6 x7 z (ix1 n) = x0 (ix1 i) :=
  cat1_apply (pieces8 x0 x1 x2 x3 x4 x5 x6 x7 z) _ 0 (by simp [pieces8]) x0 rfl (67584 * 0) (by simp [pieces8, Shape.size]) n i h

theorem cat8_1 (n : Fin 540672) (i : Fin 67200) (h : n.val = 67584 * 1 + i.val) : cat8 x0 x1 x2 x3 x4 x5 x6 x7 z (ix1 n) = x1 (ix1 i) :=
  cat1_apply (pieces8 x0 x1 x2 x3 x4 x5 x6 x7 z) _ 2 (by simp [pieces8]) x1 rfl (67584 * 1) (by simp [pieces8, Shape.size]) n i h

theorem cat8_2 (n : Fin 540672) (i : Fin 67200) (h : n.val = 67584 * 2 + i.val) : cat8 x0 x1 x2 x3 x4 x5 x6 x7 z (ix1 n) = x2 (ix1 i) :=
  cat1_apply (pieces8 x0 x1 x2 x3 x4 x5 x6 x7 z) _ 4 (by simp [pieces8]) x2 rfl (67584 * 2) (by simp [pieces8, Shape.size]) n i h

theorem cat8_3 (n : Fin 540672) (i : Fin 67200) (h : n.val = 67584 * 3 + i.val) : cat8 x0 x1 x2 x3 x4 x5 x6 x7 z (ix1 n) = x3 (ix1 i) :=
  cat1_apply (pieces8 x0 x1 x2 x3 x4 x5 x6 x7 z) _ 6 (by simp [pieces8]) x3 rfl (67584 * 3) (by simp [pieces8, Shape.size]) n i h

theorem cat8_4 (n : Fin 540672) (i : Fin 67200) (h : n.val = 67584 * 4 + i.val) : cat8 x0 x1 x2 x3 x4 x5 x6 x7 z (ix1 n) = x4 (ix1 i) :=
  cat1_apply (pieces8 x0 x1 x2 x3 x4 x5 x6 x7 z) _ 8 (by simp [pieces8]) x4 rfl (67584 * 4) (by simp [pieces8, Shape.size]) n i h

theorem cat8_5 (n : Fin 540672) (i : Fin 67200) (h : n.val = 67584 * 5 + i.val) : cat8 x0 x1 x2 x3 x4 x5 x6 x7 z (ix1 n) = x5 (ix1 i) :=
  cat1_apply (pieces8 x0 x1 x2 x3 x4 x5 x6 x7 z) _ 10 (by simp [pieces8]) x5 rfl (67584 * 5) (by simp [pieces8, Shape.size]) n i h

theorem cat8_6 (n : Fin 540672) (i : Fin 67200) (h : n.val = 67584 * 6 + i.val) : cat8 x0 x1 x2 x3 x4 x5 x6 x7 z (ix1 n) = x6 (ix1 i) :=
  cat1_apply (pieces8 x0 x1 x2 x3 x4 x5 x6 x7 z) _ 12 (by simp [pieces8]) x6 rfl (67584 * 6) (by simp [pieces8, Shape.size]) n i h

theorem cat8_7 (n : Fin 540672) (i : Fin 67200) (h : n.val = 67584 * 7 + i.val) : cat8 x0 x1 x2 x3 x4 x5 x6 x7 z (ix1 n) = x7 (ix1 i) :=
  cat1_apply (pieces8 x0 x1 x2 x3 x4 x5 x6 x7 z) _ 14 (by simp [pieces8]) x7 rfl (67584 * 7) (by simp [pieces8, Shape.size]) n i h

theorem catW_box (n : Fin 67584) (i : Fin 67200) (h : n.val = i.val) : catW w z (ix1 n) = w (ix1 i) :=
  cat1_apply [⟨S67200, w⟩, ⟨S384, z⟩] _ 0 (by simp) w rfl 0 (by simp) n i (by omega)
theorem catW_pad (n : Fin 67584) (i : Fin 384) (h : n.val = 67200 + i.val) : catW w z (ix1 n) = z (ix1 i) :=
  cat1_apply [⟨S67200, w⟩, ⟨S384, z⟩] _ 1 (by simp) z rfl 67200 (by simp [Shape.size]) n i h
theorem cat9_c (c : S540672.Idx → EReal) (v : S67584.Idx → EReal) (n : Fin 608256) (i : Fin 540672) (h : n.val = i.val) :
    cat9 c v (ix1 n) = c (ix1 i) :=
  cat1_apply [⟨S540672, c⟩, ⟨S67584, v⟩] _ 0 (by simp) c rfl 0 (by simp) n i (by omega)
theorem cat9_w (c : S540672.Idx → EReal) (v : S67584.Idx → EReal) (n : Fin 608256) (i : Fin 67584) (h : n.val = 540672 + i.val) :
    cat9 c v (ix1 n) = v (ix1 i) :=
  cat1_apply [⟨S540672, c⟩, ⟨S67584, v⟩] _ 1 (by simp) v rfl 540672 (by simp [Shape.size]) n i h

end Cat

set_option maxRecDepth 8192 in
theorem opsB_v25 (U : Valuation τ sig (Elt Ideal)) : after opsB U (Proc.devRef .tc main_v25)
    = cat9 (cat8 (U (Proc.devRef .tc main_v8)) (U (Proc.devRef .tc main_v10)) (U (Proc.devRef .tc main_v12)) (U (Proc.devRef .tc main_v14))
        (U (Proc.devRef .tc main_v16)) (U (Proc.devRef .tc main_v18)) (U (Proc.devRef .tc main_v20)) (U (Proc.devRef .tc main_v22)) (U (Proc.devRef .tc main_v6)))
      (catW (U (Proc.devRef .tc main_v5)) (U (Proc.devRef .tc main_v6))) := by
  after_results
  rfl

theorem opsA_v8 (V : Valuation τ sig (Elt Ideal)) (i : Fin 67200) : after opsA V (Proc.devRef .tc main_v8) (ix1 i)
    = V (Proc.devRef .tc main_arg1) (ix3 ⟨i.val / 8400, by omega⟩ ⟨i.val % 8400, by omega⟩ 0) := by
  after_results
  pointwise []
theorem opsA_v10 (V : Valuation τ sig (Elt Ideal)) (i : Fin 67200) : after opsA V (Proc.devRef .tc main_v10) (ix1 i)
    = V (Proc.devRef .tc main_arg1) (ix3 ⟨i.val / 8400, by omega⟩ ⟨i.val % 8400, by omega⟩ 1) := by
  after_results
  pointwise []
theorem opsA_v12 (V : Valuation τ sig (Elt Ideal)) (i : Fin 67200) : after opsA V (Proc.devRef .tc main_v12) (ix1 i)
    = V (Proc.devRef .tc main_arg1) (ix3 ⟨i.val / 8400, by omega⟩ ⟨i.val % 8400, by omega⟩ 2) := by
  after_results
  pointwise []
theorem opsA_v14 (V : Valuation τ sig (Elt Ideal)) (i : Fin 67200) : after opsA V (Proc.devRef .tc main_v14) (ix1 i)
    = V (Proc.devRef .tc main_arg1) (ix3 ⟨i.val / 8400, by omega⟩ ⟨i.val % 8400, by omega⟩ 3) := by
  after_results
  pointwise []
theorem opsA_v16 (V : Valuation τ sig (Elt Ideal)) (i : Fin 67200) : after opsA V (Proc.devRef .tc main_v16) (ix1 i)
    = V (Proc.devRef .tc main_arg3) (ix3 ⟨i.val / 8400, by omega⟩ ⟨i.val % 8400, by omega⟩ 0) := by
  after_results
  pointwise []
theorem opsA_v18 (V : Valuation τ sig (Elt Ideal)) (i : Fin 67200) : after opsA V (Proc.devRef .tc main_v18) (ix1 i)
    = V (Proc.devRef .tc main_arg3) (ix3 ⟨i.val / 8400, by omega⟩ ⟨i.val % 8400, by omega⟩ 1) := by
  after_results
  pointwise []
theorem opsA_v20 (V : Valuation τ sig (Elt Ideal)) (i : Fin 67200) : after opsA V (Proc.devRef .tc main_v20) (ix1 i)
    = V (Proc.devRef .tc main_arg3) (ix3 ⟨i.val / 8400, by omega⟩ ⟨i.val % 8400, by omega⟩ 2) := by
  after_results
  pointwise []
theorem opsA_v22 (V : Valuation τ sig (Elt Ideal)) (i : Fin 67200) : after opsA V (Proc.devRef .tc main_v22) (ix1 i)
    = V (Proc.devRef .tc main_arg3) (ix3 ⟨i.val / 8400, by omega⟩ ⟨i.val % 8400, by omega⟩ 3) := by
  after_results
  pointwise []
theorem opsA_v5 (V : Valuation τ sig (Elt Ideal)) (i : Fin 67200) : after opsA V (Proc.devRef .tc main_v5) (ix1 i)
    = FloatOps.uitofp (F := Ideal) FTy.f32 (V (Proc.devRef .tc main_arg4) (ix2 ⟨i.val / 8400, by omega⟩ ⟨i.val % 8400, by omega⟩))
      * V (Proc.devRef .tc main_arg5) (ix2 ⟨i.val / 8400, by omega⟩ ⟨i.val % 8400, by omega⟩) := by
  after_results
  pointwise []
theorem opsA_v6 (V : Valuation τ sig (Elt Ideal)) (i : Fin 384) : after opsA V (Proc.devRef .tc main_v6) (ix1 i) = (0 : EReal) := by
  after_results
  pointwise []

theorem ixC_ix1 (n : Fin 608256) : (ixC n : S608256.Idx) = ix1 n := by
  funext a
  match a with
  | ⟨0, _⟩ => rfl

/-- The gathered components, read where the host's operations leave them. -/
abbrev comps (V : Valuation τ sig (Elt Ideal)) : S608256.Idx → Ideal .f32 := after ops1 V (Proc.devRef .tc main_v25)

theorem comps_eq (V : Valuation τ sig (Elt Ideal)) : comps V = cat9 (cat8 (after opsA V (Proc.devRef .tc main_v8)) (after opsA V (Proc.devRef .tc main_v10)) (after opsA V (Proc.devRef .tc main_v12)) (after opsA V (Proc.devRef .tc main_v14))
        (after opsA V (Proc.devRef .tc main_v16)) (after opsA V (Proc.devRef .tc main_v18)) (after opsA V (Proc.devRef .tc main_v20)) (after opsA V (Proc.devRef .tc main_v22)) (after opsA V (Proc.devRef .tc main_v6)))
      (catW (after opsA V (Proc.devRef .tc main_v5)) (after opsA V (Proc.devRef .tc main_v6))) := by
  show after ops1 V _ = _
  rw [ops1_cut, opsB_v25]

theorem comps_0 (V : Valuation τ sig (Elt Ideal)) (i : Fin 67200) (h : 67584 * 0 + i.val < 608256) : comps V (ixC ⟨67584 * 0 + i.val, h⟩)
    = V (Proc.devRef .tc main_arg1) (ix3 ⟨i.val / 8400, by omega⟩ ⟨i.val % 8400, by omega⟩ 0) := by
  rw [ixC_ix1, comps_eq, cat9_c _ _ _ ⟨67584 * 0 + i.val, by omega⟩ rfl, cat8_0 _ _ _ _ _ _ _ _ _ _ i rfl, opsA_v8]
theorem comps_1 (V : Valuation τ sig (Elt Ideal)) (i : Fin 67200) (h : 67584 * 1 + i.val < 608256) : comps V (ixC ⟨67584 * 1 + i.val, h⟩)
    = V (Proc.devRef .tc main_arg1) (ix3 ⟨i.val / 8400, by omega⟩ ⟨i.val % 8400, by omega⟩ 1) := by
  rw [ixC_ix1, comps_eq, cat9_c _ _ _ ⟨67584 * 1 + i.val, by omega⟩ rfl, cat8_1 _ _ _ _ _ _ _ _ _ _ i rfl, opsA_v10]
theorem comps_2 (V : Valuation τ sig (Elt Ideal)) (i : Fin 67200) (h : 67584 * 2 + i.val < 608256) : comps V (ixC ⟨67584 * 2 + i.val, h⟩)
    = V (Proc.devRef .tc main_arg1) (ix3 ⟨i.val / 8400, by omega⟩ ⟨i.val % 8400, by omega⟩ 2) := by
  rw [ixC_ix1, comps_eq, cat9_c _ _ _ ⟨67584 * 2 + i.val, by omega⟩ rfl, cat8_2 _ _ _ _ _ _ _ _ _ _ i rfl, opsA_v12]
theorem comps_3 (V : Valuation τ sig (Elt Ideal)) (i : Fin 67200) (h : 67584 * 3 + i.val < 608256) : comps V (ixC ⟨67584 * 3 + i.val, h⟩)
    = V (Proc.devRef .tc main_arg1) (ix3 ⟨i.val / 8400, by omega⟩ ⟨i.val % 8400, by omega⟩ 3) := by
  rw [ixC_ix1, comps_eq, cat9_c _ _ _ ⟨67584 * 3 + i.val, by omega⟩ rfl, cat8_3 _ _ _ _ _ _ _ _ _ _ i rfl, opsA_v14]
theorem comps_4 (V : Valuation τ sig (Elt Ideal)) (i : Fin 67200) (h : 67584 * 4 + i.val < 608256) : comps V (ixC ⟨67584 * 4 + i.val, h⟩)
    = V (Proc.devRef .tc main_arg3) (ix3 ⟨i.val / 8400, by omega⟩ ⟨i.val % 8400, by omega⟩ 0) := by
  rw [ixC_ix1, comps_eq, cat9_c _ _ _ ⟨67584 * 4 + i.val, by omega⟩ rfl, cat8_4 _ _ _ _ _ _ _ _ _ _ i rfl, opsA_v16]
theorem comps_5 (V : Valuation τ sig (Elt Ideal)) (i : Fin 67200) (h : 67584 * 5 + i.val < 608256) : comps V (ixC ⟨67584 * 5 + i.val, h⟩)
    = V (Proc.devRef .tc main_arg3) (ix3 ⟨i.val / 8400, by omega⟩ ⟨i.val % 8400, by omega⟩ 1) := by
  rw [ixC_ix1, comps_eq, cat9_c _ _ _ ⟨67584 * 5 + i.val, by omega⟩ rfl, cat8_5 _ _ _ _ _ _ _ _ _ _ i rfl, opsA_v18]
theorem comps_6 (V : Valuation τ sig (Elt Ideal)) (i : Fin 67200) (h : 67584 * 6 + i.val < 608256) : comps V (ixC ⟨67584 * 6 + i.val, h⟩)
    = V (Proc.devRef .tc main_arg3) (ix3 ⟨i.val / 8400, by omega⟩ ⟨i.val % 8400, by omega⟩ 2) := by
  rw [ixC_ix1, comps_eq, cat9_c _ _ _ ⟨67584 * 6 + i.val, by omega⟩ rfl, cat8_6 _ _ _ _ _ _ _ _ _ _ i rfl, opsA_v20]
theorem comps_7 (V : Valuation τ sig (Elt Ideal)) (i : Fin 67200) (h : 67584 * 7 + i.val < 608256) : comps V (ixC ⟨67584 * 7 + i.val, h⟩)
    = V (Proc.devRef .tc main_arg3) (ix3 ⟨i.val / 8400, by omega⟩ ⟨i.val % 8400, by omega⟩ 3) := by
  rw [ixC_ix1, comps_eq, cat9_c _ _ _ ⟨67584 * 7 + i.val, by omega⟩ rfl, cat8_7 _ _ _ _ _ _ _ _ _ _ i rfl, opsA_v22]
theorem comps_8 (V : Valuation τ sig (Elt Ideal)) (i : Fin 67200) (h : 67584 * 8 + i.val < 608256) : comps V (ixC ⟨67584 * 8 + i.val, h⟩)
    = FloatOps.uitofp (F := Ideal) FTy.f32 (V (Proc.devRef .tc main_arg4) (ix2 ⟨i.val / 8400, by omega⟩ ⟨i.val % 8400, by omega⟩))
      * V (Proc.devRef .tc main_arg5) (ix2 ⟨i.val / 8400, by omega⟩ ⟨i.val % 8400, by omega⟩) := by
  rw [ixC_ix1, comps_eq, cat9_w _ _ _ ⟨i.val, by omega⟩ rfl, catW_box _ _ _ i rfl, opsA_v5]
theorem comps_pad (V : Valuation τ sig (Elt Ideal)) (i : Fin 384) (h : 67584 * 8 + (67200 + i.val) < 608256) :
    comps V (ixC ⟨67584 * 8 + (67200 + i.val), h⟩) = (0 : EReal) := by
  rw [ixC_ix1, comps_eq, cat9_w _ _ _ ⟨67200 + i.val, by omega⟩ rfl, catW_pad _ _ _ i rfl, opsA_v6]

/-- The loss of box `(a, b)` as the reference states it, from its coordinates, mask and weight. -/
def boxLoss (P T : S8x8400x4.Idx → EReal) (v : S8x8400.Idx → BitVec 1) (b : S8x8400.Idx → EReal) (i : Fin 8) (j : Fin 8400) : EReal :=
  rLoss (P (ix3 i j 0)) (P (ix3 i j 1)) (P (ix3 i j 2)) (P (ix3 i j 3)) (T (ix3 i j 0)) (T (ix3 i j 1)) (T (ix3 i j 2)) (T (ix3 i j 3))
    (FloatOps.uitofp (F := Ideal) FTy.f32 (v (ix2 i j))) (b (ix2 i j))

theorem boxAt_box (V : Valuation τ sig (Elt Ideal)) (i : Fin 8) (j : Fin 8400) : boxAt (comps V) (8400 * i.val + j.val)
    = boxLoss (V (Proc.devRef .tc main_arg1)) (V (Proc.devRef .tc main_arg3)) (V (Proc.devRef .tc main_arg4)) (V (Proc.devRef .tc main_arg5)) i j := by
  have hi := i.isLt
  have hj := j.isLt
  have hn : 8400 * i.val + j.val < 67200 := by omega
  have e1 : (⟨(8400 * i.val + j.val) / 8400, by omega⟩ : Fin 8) = i := Fin.ext (by show (8400 * i.val + j.val) / 8400 = i.val; omega)
  have e2 : (⟨(8400 * i.val + j.val) % 8400, by omega⟩ : Fin 8400) = j := Fin.ext (by show (8400 * i.val + j.val) % 8400 = j.val; omega)
  have k0 := comps_0 V ⟨8400 * i.val + j.val, hn⟩ (by show 67584 * 0 + (8400 * i.val + j.val) < _; omega)
  have k1 := comps_1 V ⟨8400 * i.val + j.val, hn⟩ (by show 67584 * 1 + (8400 * i.val + j.val) < _; omega)
  have k2 := comps_2 V ⟨8400 * i.val + j.val, hn⟩ (by show 67584 * 2 + (8400 * i.val + j.val) < _; omega)
  have k3 := comps_3 V ⟨8400 * i.val + j.val, hn⟩ (by show 67584 * 3 + (8400 * i.val + j.val) < _; omega)
  have k4 := comps_4 V ⟨8400 * i.val + j.val, hn⟩ (by show 67584 * 4 + (8400 * i.val + j.val) < _; omega)
  have k5 := comps_5 V ⟨8400 * i.val + j.val, hn⟩ (by show 67584 * 5 + (8400 * i.val + j.val) < _; omega)
  have k6 := comps_6 V ⟨8400 * i.val + j.val, hn⟩ (by show 67584 * 6 + (8400 * i.val + j.val) < _; omega)
  have k7 := comps_7 V ⟨8400 * i.val + j.val, hn⟩ (by show 67584 * 7 + (8400 * i.val + j.val) < _; omega)
  have k8 := comps_8 V ⟨8400 * i.val + j.val, hn⟩ (by show 67584 * 8 + (8400 * i.val + j.val) < _; omega)
  simp only [e1, e2] at k0 k1 k2 k3 k4 k5 k6 k7 k8
  unfold boxAt boxLoss
  rw [dif_pos (by omega : 8400 * i.val + j.val < 67584), k0, k1, k2, k3, k4, k5, k6, k7, k8]
  exact loss_eq _ _ _ _ _ _ _ _ _ _

theorem boxAt_pad (V : Valuation τ sig (Elt Ideal)) (n : ℕ) (hn : n < 384) : boxAt (comps V) (67200 + n) = 0 := by
  have k8 := comps_pad V ⟨n, hn⟩ (by show 67584 * 8 + (67200 + n) < _; omega)
  unfold boxAt
  rw [dif_pos (by omega : 67200 + n < 67584), k8]
  exact loss_zero _ _ _ _ _ _ _ _

/-- All the lanes of all the subcores: the loss of every box of the problem once. -/
theorem sum_boxes (V : Valuation τ sig (Elt Ideal)) : ∑ w : Fin 32, ∑ l : Fin 16, OUT (comps V) (ix2 w l)
    = ∑ i : Fin 8, ∑ j : Fin 8400, boxLoss (V (Proc.devRef .tc main_arg1)) (V (Proc.devRef .tc main_arg3)) (V (Proc.devRef .tc main_arg4)) (V (Proc.devRef .tc main_arg5)) i j := by
  rw [sum_OUT, show (67584 : ℕ) = 67200 + 384 from rfl, Finset.sum_range_add]
  rw [Finset.sum_eq_zero (s := Finset.range 384) (fun n hn => boxAt_pad V n (Finset.mem_range.mp hn)), add_zero]
  rw [show (67200 : ℕ) = 8 * 8400 from rfl, ← sum_blocks 8 8400, ← Fin.sum_univ_eq_sum_range (fun a => ∑ b ∈ Finset.range 8400, boxAt (comps V) (8400 * a + b)) 8]
  refine Finset.sum_congr rfl fun i _ => ?_
  rw [← Fin.sum_univ_eq_sum_range (fun b => boxAt (comps V) (8400 * i.val + b)) 8400]
  exact Finset.sum_congr rfl fun j _ => boxAt_box V i j

end Cert.Proof.Det

end
-- ==== Proof.ClassSum.lean ====
/-
  The class loss: the four blocks the kernel adds up, lane after lane, are the terms the reference adds up at once.
-/
module

public import proofs.«01_k».proof.Proof.Comps

@[expose] public section

noncomputable section

namespace Cert.Proof.Det

open Cert.KernelIdeal Cert.KernelIdeal.Gen
open Idealize.ShloMosaic Idealize.ShloMosaic.TcCoe
open scoped BigOperators

/-- A sum over the first two axes of three, at a coordinate of the third. -/
theorem reduce_lead {n0 n1 n2 : ℕ} (h : (⟨3, ![n0, n1, n2]⟩ : Shape).Reduces [0, 1] (⟨1, ![n2]⟩ : Shape)) (v : (⟨3, ![n0, n1, n2]⟩ : Shape).Idx → EReal) (k : Fin n2) :
    Ideal.reduceAdd h v (ix1 k) = ∑ a : Fin n0, ∑ b : Fin n1, v (ix3 a b k) := by
  have hf : ∀ i, h.drop i = ix1 k ↔ ∃ q : Fin n0 × Fin n1, ix3 q.1 q.2 k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨q, rfl⟩
      funext b
      apply Fin.ext
      match b with
      | ⟨0, _⟩ => rfl
  refine (Finset.sum_filter_eq_sum_of_fiber _ (fun q : Fin n0 × Fin n1 => ix3 q.1 q.2 k)
    (fun _ _ e => Prod.ext (congrFun e 0) (congrFun e 1)) hf v).trans ?_
  simp only [Fintype.sum_prod_type]

theorem pay1_apply (P T : S2x8400x80.Idx → Ideal .f32) (k : Fin 80) :
    k1_pay1 (F := Ideal) P T (ix1 k) = (∑ a : Fin 2, ∑ b : Fin 8400, bce (P (ix3 a b k)) (T (ix3 a b k)) : EReal) := by
  unfold_payloads
  pointwise []
  rw [reduce_lead]
  refine Finset.sum_congr rfl fun a _ => Finset.sum_congr rfl fun b _ => ?_
  pointwise []
  exact bce_eq _ _

theorem pay2_apply (P T : S2x8400x80.Idx → Ideal .f32) (k : Fin 80) :
    k1_pay2 (F := Ideal) P T (ix2 0 k) = k1_pay1 (F := Ideal) P T (ix1 k) := by
  unfold k1_pay2
  pointwise []
theorem pay3_apply (P T : S2x8400x80.Idx → Ideal .f32) (A : S1x80.Idx → Ideal .f32) (k : Fin 80) :
    k1_pay3 (F := Ideal) P T A (ix2 0 k) = (A (ix2 0 k) + k1_pay1 (F := Ideal) P T (ix1 k) : EReal) := by
  unfold k1_pay3
  pointwise []
theorem pay4_apply (A : S1x80.Idx → Ideal .f32) :
    k1_pay4 (F := Ideal) A = (∑ k : Fin 80, A (ix2 0 k) : EReal) := by
  unfold_payloads
  pointwise []
theorem blkP_apply (V : (c : Dev nD) → (b : Ref sig .tc) → Buf (Elt Ideal) ((c : Thread nD τ).loc b)) (c : Dev nD) (t : Fin cfg1.N)
    (a : Fin 2) (b : Fin 8400) (k : Fin 80) (h : 2 * t.val + a.val < 8) :
    blkP V c t (ix3 a b k) = (V c main_arg0 : S8x8400x80.Idx → EReal) (ix3 ⟨2 * t.val + a.val, h⟩ b k) := by
  have e : win1_0.index t 0 * win1_0.size 0 = 2 * t.val ∧ win1_0.index t 1 * win1_0.size 1 = 0 ∧ win1_0.index t 2 * win1_0.size 2 = 0 := by
    rcases fin_N1 t with rfl | rfl | rfl | rfl <;> decide +kernel
  show (V c main_arg0 : S8x8400x80.Idx → EReal) ((win1_0.rect t).idx (ix3 a b k)) = _
  refine congrArg (V c main_arg0 : S8x8400x80.Idx → EReal) (funext fun q => Fin.ext ?_)
  match q with
  | ⟨0, _⟩ => show win1_0.index t 0 * win1_0.size 0 + 1 * a.val = 2 * t.val + a.val; rw [e.1, Nat.one_mul]
  | ⟨1, _⟩ => show win1_0.index t 1 * win1_0.size 1 + 1 * b.val = b.val; rw [e.2.1, Nat.one_mul, Nat.zero_add]
  | ⟨2, _⟩ => show win1_0.index t 2 * win1_0.size 2 + 1 * k.val = k.val; rw [e.2.2, Nat.one_mul, Nat.zero_add]
theorem blkT_apply (V : (c : Dev nD) → (b : Ref sig .tc) → Buf (Elt Ideal) ((c : Thread nD τ).loc b)) (c : Dev nD) (t : Fin cfg1.N)
    (a : Fin 2) (b : Fin 8400) (k : Fin 80) (h : 2 * t.val + a.val < 8) :
    blkT V c t (ix3 a b k) = (V c main_arg2 : S8x8400x80.Idx → EReal) (ix3 ⟨2 * t.val + a.val, h⟩ b k) := by
  have e : win1_1.index t 0 * win1_1.size 0 = 2 * t.val ∧ win1_1.index t 1 * win1_1.size 1 = 0 ∧ win1_1.index t 2 * win1_1.size 2 = 0 := by
    rcases fin_N1 t with rfl | rfl | rfl | rfl <;> decide +kernel
  show (V c main_arg2 : S8x8400x80.Idx → EReal) ((win1_1.rect t).idx (ix3 a b k)) = _
  refine congrArg (V c main_arg2 : S8x8400x80.Idx → EReal) (funext fun q => Fin.ext ?_)
  match q with
  | ⟨0, _⟩ => show win1_1.index t 0 * win1_1.size 0 + 1 * a.val = 2 * t.val + a.val; rw [e.1, Nat.one_mul]
  | ⟨1, _⟩ => show win1_1.index t 1 * win1_1.size 1 + 1 * b.val = b.val; rw [e.2.1, Nat.one_mul, Nat.zero_add]
  | ⟨2, _⟩ => show win1_1.index t 2 * win1_1.size 2 + 1 * k.val = k.val; rw [e.2.2, Nat.one_mul, Nat.zero_add]

/-- What the four points leave in the accumulator, lane by lane. -/
theorem acc_apply (V : (c : Dev nD) → (b : Ref sig .tc) → Buf (Elt Ideal) ((c : Thread nD τ).loc b)) (c : Dev nD) (k : Fin 80) :
    accV V c 4 (ix2 0 k) = (∑ a : Fin 8, ∑ b : Fin 8400,
      bce ((V c main_arg0 : S8x8400x80.Idx → EReal) (ix3 a b k)) ((V c main_arg2 : S8x8400x80.Idx → EReal) (ix3 a b k)) : EReal) := by
  show k1_pay3 (F := Ideal) (blkP V c t1_3) (blkT V c t1_3) (k1_pay3 (F := Ideal) (blkP V c t1_2) (blkT V c t1_2) (k1_pay3 (F := Ideal) (blkP V c t1_1) (blkT V c t1_1) (k1_pay2 (F := Ideal) (blkP V c t1_0) (blkT V c t1_0)))) (ix2 0 k) = _
  have hb : ∀ (t : Fin cfg1.N) (ht : t.val < 4), k1_pay1 (F := Ideal) (blkP V c t) (blkT V c t) (ix1 k)
      = ((∑ b : Fin 8400, bce ((V c main_arg0 : S8x8400x80.Idx → EReal) (ix3 ⟨2 * t.val + 0, by omega⟩ b k)) ((V c main_arg2 : S8x8400x80.Idx → EReal) (ix3 ⟨2 * t.val + 0, by omega⟩ b k)))
        + ∑ b : Fin 8400, bce ((V c main_arg0 : S8x8400x80.Idx → EReal) (ix3 ⟨2 * t.val + 1, by omega⟩ b k)) ((V c main_arg2 : S8x8400x80.Idx → EReal) (ix3 ⟨2 * t.val + 1, by omega⟩ b k)) : EReal) := by
    intro t ht
    rw [pay1_apply, Fin.sum_univ_two]
    refine congrArg₂ (· + ·) (Finset.sum_congr rfl fun b _ => ?_) (Finset.sum_congr rfl fun b _ => ?_)
    · rw [blkP_apply V c t 0 b k (by show 2 * t.val + 0 < 8; omega), blkT_apply V c t 0 b k (by show 2 * t.val + 0 < 8; omega)]; rfl
    · rw [blkP_apply V c t 1 b k (by show 2 * t.val + 1 < 8; omega), blkT_apply V c t 1 b k (by show 2 * t.val + 1 < 8; omega)]; rfl
  rw [pay3_apply, pay3_apply, pay3_apply, pay2_apply, hb t1_0 (by decide), hb t1_1 (by decide), hb t1_2 (by decide), hb t1_3 (by decide), Fin.sum_univ_eight]
  simp only [add_assoc]
  rfl

/-- The kernel's class total. -/
theorem class_total (V : (c : Dev nD) → (b : Ref sig .tc) → Buf (Elt Ideal) ((c : Thread nD τ).loc b)) (c : Dev nD) (q : S1x1.Idx) :
    bceV V c q = (∑ a : Fin 8, ∑ b : Fin 8400, ∑ k : Fin 80,
      bce ((V c main_arg0 : S8x8400x80.Idx → EReal) (ix3 a b k)) ((V c main_arg2 : S8x8400x80.Idx → EReal) (ix3 a b k)) : EReal) := by
  show k1_pay4 (F := Ideal) (accV V c 4) = _
  rw [pay4_apply]
  simp only [acc_apply]
  rw [Finset.sum_comm]
  refine Finset.sum_congr rfl fun a _ => ?_
  exact Finset.sum_comm

end Cert.Proof.Det

end
-- ==== Proof.RefBox.lean ====
/-
  The reference's totals: the box loss read at a box is the plain loss of the box from its coordinates, its mask and its weight.
-/
module

public import proofs.«01_k».proof.Proof.Gen.ReferenceIdeal.Run
public import proofs.«01_k».proof.Proof.Comps
public import Idealize.ShloMosaic.Lib.Pointwise

@[expose] public section

noncomputable section

namespace Cert.Proof.Det

open Cert.ReferenceIdeal Cert.ReferenceIdeal.Gen Cert.ReferenceIdeal.Value
open Idealize.ShloMosaic
open scoped BigOperators

/-- The loss of every box before it is summed, as the reference's operations write it. -/
def boxTerm (V0 : Valuation τ sig (Elt Ideal)) : S8x8400.Idx → EReal := (mulf (mulf (subf (broadcastInDim S8x8400 ![] bcast_S_S8x8400 (constant S_ .f32 0x3F800000#32)) (shapeCast _ (subf (subf (res_main_v65 V0) (Host.divf (addf (mulf (res_main_v94 V0) (res_main_v94 V0)) (mulf (res_main_v96 V0) (res_main_v96 V0))) (addf (addf (mulf (res_main_v109 V0) (res_main_v109 V0)) (mulf (res_main_v120 V0) (res_main_v120 V0))) (broadcastInDim S67200 ![] bcast_S_S67200 (constant S_ .f32 0x33D6BF95#32))))) (mulf (Host.divf (res_main_v419 V0) (addf (addf (subf (res_main_v419 V0) (res_main_v65 V0)) (broadcastInDim S67200 ![] bcast_S_S67200 (constant S_ .f32 0x3F800000#32))) (broadcastInDim S67200 ![] bcast_S_S67200 (constant S_ .f32 0x33D6BF95#32)))) (res_main_v419 V0))) shapeCasts_S67200_S8x8400)) (uitofp .f32 (V0 (Proc.devRef .tc main_arg4)))) (V0 (Proc.devRef .tc main_arg5)))

theorem sitofp_zero : FloatOps.sitofp (F := Ideal) FTy.f32 0#32 = (0 : EReal) := by
  show ((BitVec.toInt 0#32 : ℝ) : EReal) = 0
  simp

set_option maxHeartbeats 4000000 in
theorem angle_apply (V0 : Valuation τ sig (Elt Ideal)) (n : Fin 67200) :
    res_main_v416 V0 (ix1 n) = rAtan (res_main_v140 V0 (ix1 n)) - rAtan (res_main_v284 V0 (ix1 n)) := by
  unfold res_main_v416
  generalize h1 : res_main_v140 V0 = R1
  simp only [h1, res_main_v38, res_main_v65, res_main_v94, res_main_v96, res_main_v109, res_main_v120, res_main_v152, res_main_v158, res_main_v165, res_main_v166, res_main_v172, res_main_v174, res_main_v180, res_main_v181, res_main_v188, res_main_v190, res_main_v197, res_main_v198, res_main_v199, res_main_v206, res_main_v216, res_main_v222, res_main_v229, res_main_v230, res_main_v236, res_main_v238, res_main_v244, res_main_v245, res_main_v252, res_main_v254, res_main_v261, res_main_v262, res_main_v263, res_main_v296, res_main_v302, res_main_v309, res_main_v310, res_main_v316, res_main_v318, res_main_v324, res_main_v325, res_main_v332, res_main_v334, res_main_v341, res_main_v342, res_main_v343, res_main_v350, res_main_v360, res_main_v366, res_main_v373, res_main_v374, res_main_v380, res_main_v382, res_main_v388, res_main_v389, res_main_v396, res_main_v398, res_main_v405, res_main_v406, res_main_v407, res_main_v419]
  generalize h2 : res_main_v284 V0 = R2
  pointwise []
  unfold rAtan rOdd
  rfl

/-- The ratio of the sides of box `(i, j)`. -/
def ratio (P : S8x8400x4.Idx → EReal) (i : Fin 8) (j : Fin 8400) : EReal :=
  Ideal.div (P (ix3 i j 2) - P (ix3 i j 0)) (P (ix3 i j 3) - P (ix3 i j 1) + cEps)

theorem ratio_P (V0 : Valuation τ sig (Elt Ideal)) (n : Fin 67200) : res_main_v140 V0 (ix1 n)
    = ratio (V0 (Proc.devRef .tc main_arg1)) ⟨n.val / 8400, by omega⟩ ⟨n.val % 8400, by omega⟩ := by
  pointwise [res_main_v140, res_main_v12, res_main_v13]
  rfl

theorem ratio_T (V0 : Valuation τ sig (Elt Ideal)) (n : Fin 67200) : res_main_v284 V0 (ix1 n)
    = ratio (V0 (Proc.devRef .tc main_arg3)) ⟨n.val / 8400, by omega⟩ ⟨n.val % 8400, by omega⟩ := by
  pointwise [res_main_v284, res_main_v12, res_main_v13]
  rfl

set_option maxHeartbeats 4000000 in
theorem box_apply (V0 : Valuation τ sig (Elt Ideal)) (a : Fin 8) (b : Fin 8400) : boxTerm V0 (ix2 a b)
    = (1 - rCiou (V0 (Proc.devRef .tc main_arg1) (ix3 a b 0)) (V0 (Proc.devRef .tc main_arg1) (ix3 a b 1)) (V0 (Proc.devRef .tc main_arg1) (ix3 a b 2)) (V0 (Proc.devRef .tc main_arg1) (ix3 a b 3))
        (V0 (Proc.devRef .tc main_arg3) (ix3 a b 0)) (V0 (Proc.devRef .tc main_arg3) (ix3 a b 1)) (V0 (Proc.devRef .tc main_arg3) (ix3 a b 2)) (V0 (Proc.devRef .tc main_arg3) (ix3 a b 3))
        (res_main_v416 V0 (ix1 ⟨a.val * 8400 + b.val, by omega⟩)))
      * FloatOps.uitofp (F := Ideal) FTy.f32 (V0 (Proc.devRef .tc main_arg4) (ix2 a b)) * V0 (Proc.devRef .tc main_arg5) (ix2 a b) := by
  unfold boxTerm
  simp only [res_main_v38, res_main_v65, res_main_v94, res_main_v96, res_main_v109, res_main_v120, res_main_v419]
  generalize h1 : res_main_v416 V0 = A
  pointwise [res_main_v12, res_main_v13]
  simp only [sitofp_zero]
  unfold rCiou
  rfl

theorem box_loss (V0 : Valuation τ sig (Elt Ideal)) (a : Fin 8) (b : Fin 8400) : boxTerm V0 (ix2 a b)
    = boxLoss (V0 (Proc.devRef .tc main_arg1)) (V0 (Proc.devRef .tc main_arg3)) (V0 (Proc.devRef .tc main_arg4)) (V0 (Proc.devRef .tc main_arg5)) a b := by
  have ha := a.isLt
  have hb := b.isLt
  have e1 : (⟨(a.val * 8400 + b.val) / 8400, by omega⟩ : Fin 8) = a := Fin.ext (by show (a.val * 8400 + b.val) / 8400 = a.val; omega)
  have e2 : (⟨(a.val * 8400 + b.val) % 8400, by omega⟩ : Fin 8400) = b := Fin.ext (by show (a.val * 8400 + b.val) % 8400 = b.val; omega)
  rw [box_apply, angle_apply, ratio_P, ratio_T]
  simp only [e1, e2]
  rfl

/-- The reference's box total: the loss of every box once. -/
theorem box_total (V0 : Valuation τ sig (Elt Ideal)) :
    Host.reduceAdd (boxTerm V0) (constant (F := Ideal) S_ .f32 0x00000000#32) reducesTo_S8x8400_S_d0_1 h_S_
    = fun _ => ∑ i : Fin 8, ∑ j : Fin 8400,
        boxLoss (V0 (Proc.devRef .tc main_arg1)) (V0 (Proc.devRef .tc main_arg3)) (V0 (Proc.devRef .tc main_arg4)) (V0 (Proc.devRef .tc main_arg5)) i j := by
  funext q
  simp only [← box_loss]
  generalize boxTerm V0 = B
  pointwise []

/-- The reference's class total: the loss of every class of every box once. -/
theorem class_sum (P T : S8x8400x80.Idx → Ideal .f32) :
    Host.reduceAdd (addf (subf (maximumf P (broadcastInDim S8x8400x80 ![] bcast_S_S8x8400x80 (constant S_ .f32 0x00000000#32))) (mulf P T))
        (Host.log1p (Host.exp (Host.negf (Host.absf P))))) (constant (F := Ideal) S_ .f32 0x00000000#32) reducesTo_S8x8400x80_S_d0_1_2 h_S_
    = fun _ => (∑ a : Fin 8, ∑ b : Fin 8400, ∑ k : Fin 80, bce (P (ix3 a b k)) (T (ix3 a b k)) : EReal) := by
  funext q
  pointwise []
  rfl

end Cert.Proof.Det

end
-- ==== Proof.Algebra.lean ====
/-
  The kernel and the reference leave the same two results.
-/
module

public import proofs.«01_k».proof.Proof.Frames
public import proofs.«01_k».proof.Proof.ClassSum
public import proofs.«01_k».proof.Proof.RefBox

@[expose] public section

noncomputable section

namespace Cert.Proof.Det

open Idealize.ShloMosaic Idealize.ShloMosaic.TcCoe Idealize.SL.Sem
open scoped BigOperators

section Kernel

open Cert.KernelIdeal Cert.KernelIdeal.Gen Idealize.ShloMosaic.StableHlo

variable (m : (ℓ : Loc nD τ sig) → Buf (Elt Ideal) ℓ)

theorem V2b_of_ne (d : Dev nD) (b : Ref sig .tc) (h1 : b ∉ W1) (h26 : b ≠ main_v26) : V2b m d b = m ((d : Thread nD τ).loc b) := by
  unfold V2b V2
  rw [Function.update_of_ne (fun e => h26 (Proc.devRef_injective _ e))]
  unfold V1
  rw [after_of_writes_sub ops1 _ ops1_writes h1]

/-- The class loss the kernel leaves. -/
theorem kernel_class (d : Dev nD) : VF m d main_v29 = Host.divf (F := Ideal) (s := S_) (φ := .f32)
    (fun _ => (∑ a : Fin 8, ∑ b : Fin 8400, ∑ k : Fin 80,
      bce ((m ((d : Thread nD τ).loc main_arg0) : S8x8400x80.Idx → EReal) (ix3 a b k)) ((m ((d : Thread nD τ).loc main_arg2) : S8x8400x80.Idx → EReal) (ix3 a b k)) : EReal))
    (m ((d : Thread nD τ).loc main_arg6)) := by
  rw [VF_v29]
  refine congrArg (fun u => Host.divf (F := Ideal) (s := S_) (φ := .f32) u (m ((d : Thread nD τ).loc main_arg6))) (funext fun q => ?_)
  refine (class_total (V2b m) d _).trans ?_
  rw [V2b_of_ne m d main_arg0 (by decide) (by decide), V2b_of_ne m d main_arg2 (by decide) (by decide)]

/-- The box loss the kernel leaves. -/
theorem kernel_box (d : Dev nD) : VF m d main_v31 = Host.divf (F := Ideal) (s := S_) (φ := .f32)
    (fun _ => (∑ i : Fin 8, ∑ j : Fin 8400,
      boxLoss (m ((d : Thread nD τ).loc main_arg1)) (m ((d : Thread nD τ).loc main_arg3)) (m ((d : Thread nD τ).loc main_arg4)) (m ((d : Thread nD τ).loc main_arg5)) i j : EReal))
    (m ((d : Thread nD τ).loc main_arg6)) := by
  rw [VF_v31]
  refine congrArg (fun u => Host.divf (F := Ideal) (s := S_) (φ := .f32) u (m ((d : Thread nD τ).loc main_arg6))) (funext fun q => ?_)
  refine Eq.trans ?_ (sum_boxes (launchContents m d))
  show Host.reduceAdd (F := Ideal) (OUT (comps (launchContents m d))) (constant (F := Ideal) S_ .f32 0x00000000#32) reducesTo_S32x16_S_d0_1 h_S_ q = _
  generalize OUT (comps (launchContents m d)) = O
  pointwise []

end Kernel

section Reference

open Cert.ReferenceIdeal Cert.ReferenceIdeal.Gen Cert.ReferenceIdeal.Value

variable (m : (ℓ : Loc nD τ sig) → Buf (Elt Ideal) ℓ) (ρ : Dev nD → PrngReg)

/-- The reference's run, its results by their totals. -/
theorem reference_vals : θ_run (Cert.ReferenceIdeal.defs (F := Ideal)) (onTc (τ := τ) (main (F := Ideal))) ⟨m, fun _ => 0, ρ⟩ (fun r => ∀ c : Dev nD,
      r.2.mem ((c.tc : Thread nD τ).loc main_v10) = Host.divf (F := Ideal) (s := S_) (φ := .f32)
        (fun _ => (∑ a : Fin 8, ∑ b : Fin 8400, ∑ k : Fin 80,
          bce ((m ((c.tc : Thread nD τ).loc main_arg0) : S8x8400x80.Idx → EReal) (ix3 a b k)) ((m ((c.tc : Thread nD τ).loc main_arg2) : S8x8400x80.Idx → EReal) (ix3 a b k)) : EReal))
        (m ((c.tc : Thread nD τ).loc main_arg6))
      ∧ r.2.mem ((c.tc : Thread nD τ).loc main_v434) = Host.divf (F := Ideal) (s := S_) (φ := .f32)
        (fun _ => (∑ i : Fin 8, ∑ j : Fin 8400,
          boxLoss (m ((c.tc : Thread nD τ).loc main_arg1)) (m ((c.tc : Thread nD τ).loc main_arg3)) (m ((c.tc : Thread nD τ).loc main_arg4)) (m ((c.tc : Thread nD τ).loc main_arg5)) i j : EReal))
        (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run Cert.ReferenceIdeal.defs _ _).mono
    (fun r h c => ⟨(h c).1.trans (congrArg (fun u => Host.divf (F := Ideal) (s := S_) (φ := .f32) u (m ((c.tc : Thread nD τ).loc main_arg6)))
        (class_sum (m ((c.tc : Thread nD τ).loc main_arg0)) (m ((c.tc : Thread nD τ).loc main_arg2)))),
      (h c).2.1.trans (congrArg (fun u => Host.divf (F := Ideal) (s := S_) (φ := .f32) u (m ((c.tc : Thread nD τ).loc main_arg6)))
        (box_total (StableHlo.launchContents m c))), (h c).2.2⟩)
    (Cert.ReferenceIdeal.Value.run m ρ)

end Reference

end Cert.Proof.Det

end
-- ==== Proof.Equal.lean ====
/-
  The algebraic claim: from arguments that agree, the kernel and the reference end with the same two results.
-/
module

public import proofs.«01_k».proof.Defs
public import proofs.«01_k».proof.Proof.Algebra

@[expose] public section

noncomputable section

namespace Cert.Proof.Det

open Idealize.ShloMosaic Idealize.ShloMosaic.TcCoe Idealize.SL.Sem

/-- `Cert.algebraic_KernelIdeal_ReferenceIdeal`. -/
theorem equal : Cert.algebraic_KernelIdeal_ReferenceIdeal (hKernelIdeal := Cert.KernelIdeal.Gen.facts) (hReferenceIdeal := Cert.ReferenceIdeal.Gen.facts) := by
  intro m g m' g' _ hm
  refine ⟨fun c => VF m c Cert.KernelIdeal.main_v29, fun c => VF m c Cert.KernelIdeal.main_v31, ?_, ?_⟩
  · exact (θ_run Cert.KernelIdeal.defs _ _).mono (fun _ h => h.1) (run_vals m g)
  · refine (θ_run Cert.ReferenceIdeal.defs _ _).mono (fun r h c => ?_) (reference_vals m' g')
    obtain ⟨h0, h1, h2, h3, h4, h5, h6⟩ := hm c
    refine ⟨(h c).1.trans ?_, (h c).2.1.trans ?_, (h c).2.2⟩
    · rw [h0, h2, h6]
      exact (kernel_class m c).symm
    · rw [h1, h3, h4, h5, h6]
      exact (kernel_box m c).symm

end Cert.Proof.Det

end
-- ==== Proof.lean ====
/-
  The proof of `Cert.Claim` (proofs.«01_k».proof.Defs): each claim in its own module under Proof/.
-/
module

public import proofs.«01_k».proof.Proof.Rest
public import proofs.«01_k».proof.Proof.Frames
public import proofs.«01_k».proof.Proof.KFrames
public import proofs.«01_k».proof.Proof.Equal
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  DetK.frame_kernel, Det.frame_ideal, Det.frame_reference, Det.preserves, Det.equal⟩

end Cert.Proof

end
